-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "scale_log2e" .f32 0x3DD53B94#32 (((4843165 / 67108864) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)) (v3 : (c : Dev Cert.Kernel2Ideal.nD) → Buf (Elt Ideal) ((c.tc : Thread Cert.Kernel2Ideal.nD Cert.Kernel2Ideal.τ).loc Cert.Kernel2Ideal.main_v12_3)) (v4 : (c : Dev Cert.Kernel2Ideal.nD) → Buf (Elt Ideal) ((c.tc : Thread Cert.Kernel2Ideal.nD Cert.Kernel2Ideal.τ).loc Cert.Kernel2Ideal.main_v12_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_v12_3) = v3 c
          ∧ r.2.mem ((c.tc : Thread Cert.Kernel2Ideal.nD Cert.Kernel2Ideal.τ).loc Cert.Kernel2Ideal.main_v12_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_v15) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v33_0)) (v1 : (c : Dev Cert.Kernel5Ideal.nD) → Buf (Elt Ideal) ((c.tc : Thread Cert.Kernel5Ideal.nD Cert.Kernel5Ideal.τ).loc Cert.Kernel5Ideal.main_v33_1)) (v2 : (c : Dev Cert.Kernel5Ideal.nD) → Buf (Elt Ideal) ((c.tc : Thread Cert.Kernel5Ideal.nD Cert.Kernel5Ideal.τ).loc Cert.Kernel5Ideal.main_v33_2)) (v3 : (c : Dev Cert.Kernel5Ideal.nD) → Buf (Elt Ideal) ((c.tc : Thread Cert.Kernel5Ideal.nD Cert.Kernel5Ideal.τ).loc Cert.Kernel5Ideal.main_v33_3)) (v4 : (c : Dev Cert.Kernel5Ideal.nD) → Buf (Elt Ideal) ((c.tc : Thread Cert.Kernel5Ideal.nD Cert.Kernel5Ideal.τ).loc Cert.Kernel5Ideal.main_v33_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_0) = v0 c
          ∧ r.2.mem ((c.tc : Thread Cert.Kernel5Ideal.nD Cert.Kernel5Ideal.τ).loc Cert.Kernel5Ideal.main_v33_1) = v1 c
          ∧ r.2.mem ((c.tc : Thread Cert.Kernel5Ideal.nD Cert.Kernel5Ideal.τ).loc Cert.Kernel5Ideal.main_v33_2) = v2 c
          ∧ r.2.mem ((c.tc : Thread Cert.Kernel5Ideal.nD Cert.Kernel5Ideal.τ).loc Cert.Kernel5Ideal.main_v33_3) = v3 c
          ∧ r.2.mem ((c.tc : Thread Cert.Kernel5Ideal.nD Cert.Kernel5Ideal.τ).loc Cert.Kernel5Ideal.main_v33_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v61) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v62) = v2 c
          ∧ r.2.mem ((c.tc : Thread Cert.Reference5Ideal.nD Cert.Reference5Ideal.τ).loc Cert.Reference5Ideal.main_v60) = v3 c
          ∧ r.2.mem ((c.tc : Thread Cert.Reference5Ideal.nD Cert.Reference5Ideal.τ).loc Cert.Reference5Ideal.main_v63) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x16384x16x128 : Shape := ⟨4, ![2, 16384, 16, 128]⟩
abbrev S2x16384x16x64 : Shape := ⟨4, ![2, 16384, 16, 64]⟩
abbrev S2x16384x64 : Shape := ⟨3, ![2, 16384, 64]⟩
abbrev S2x16384x2048 : Shape := ⟨3, ![2, 16384, 2048]⟩
abbrev S2x16384x1024 : Shape := ⟨3, ![2, 16384, 1024]⟩
abbrev S2x16384x4096 : Shape := ⟨3, ![2, 16384, 4096]⟩
abbrev S2x16384x128 : Shape := ⟨3, ![2, 16384, 128]⟩
abbrev S1x16384x256 : Shape := ⟨3, ![1, 16384, 256]⟩
abbrev S1x512x256 : Shape := ⟨3, ![1, 512, 256]⟩
abbrev S1x512x128 : Shape := ⟨3, ![1, 512, 128]⟩
abbrev S1x16384x128 : Shape := ⟨3, ![1, 16384, 128]⟩
abbrev S512x512 : Shape := ⟨2, ![512, 512]⟩
abbrev S512x1 : Shape := ⟨2, ![512, 1]⟩
abbrev S512x128 : Shape := ⟨2, ![512, 128]⟩
abbrev S512x256 : Shape := ⟨2, ![512, 256]⟩
abbrev S512 : Shape := ⟨1, ![512]⟩

abbrev nBuf : Space → Nat
  | .hbm => 14
  | .vmem => 19
  | .smem => 0
  | _ => 0

abbrev bufTy : (tb : Table) → Fin (tcTables nBuf tb) → BufTy
  | .hbm, ⟨0, _⟩ => ⟨S2x16384x16x128, .f32⟩
  | .hbm, ⟨1, _⟩ => ⟨S2x16384x16x64, .f32⟩
  | .hbm, ⟨2, _⟩ => ⟨S2x16384x16x128, .f32⟩
  | .hbm, ⟨3, _⟩ => ⟨S2x16384x16x128, .f32⟩
  | .hbm, ⟨4, _⟩ => ⟨S2x16384x64, .f32⟩
  | .hbm, ⟨5, _⟩ => ⟨S2x16384x2048, .f32⟩
  | .hbm, ⟨6, _⟩ => ⟨S2x16384x1024, .f32⟩
  | .hbm, ⟨7, _⟩ => ⟨S2x16384x2048, .f32⟩
  | .hbm, ⟨8, _⟩ => ⟨S2x16384x2048, .f32⟩
  | .hbm, ⟨9, _⟩ => ⟨S2x16384x4096, .f32⟩
  | .hbm, ⟨10, _⟩ => ⟨S2x16384x4096, .bf16⟩
  | .hbm, ⟨11, _⟩ => ⟨S2x16384x128, .f32⟩
  | .hbm, ⟨12, _⟩ => ⟨S2x16384x128, .bf16⟩
  | .hbm, ⟨13, _⟩ => ⟨S2x16384x2048, .bf16⟩
  | .local _ .vmem, ⟨0, _⟩ => ⟨S1x16384x256, .bf16⟩
  | .local _ .vmem, ⟨1, _⟩ => ⟨S1x512x256, .f32⟩
  | .local _ .vmem, ⟨2, _⟩ => ⟨S1x512x256, .f32⟩
  | .local _ .vmem, ⟨3, _⟩ => ⟨S1x512x128, .f32⟩
  | .local _ .vmem, ⟨4, _⟩ => ⟨S1x512x128, .f32⟩
  | .local _ .vmem, ⟨5, _⟩ => ⟨S1x16384x128, .bf16⟩
  | .local _ .vmem, ⟨6, _⟩ => ⟨S1x16384x256, .bf16⟩
  | .local _ .vmem, ⟨7, _⟩ => ⟨S1x512x256, .bf16⟩
  | .local _ .vmem, ⟨8, _⟩ => ⟨S1x512x256, .bf16⟩
  | .local _ .vmem, ⟨9, _⟩ => ⟨S512x512, .f32⟩
  | .local _ .vmem, ⟨10, _⟩ => ⟨S512x512, .f32⟩
  | .local _ .vmem, ⟨11, _⟩ => ⟨S512x1, .f32⟩
  | .local _ .vmem, ⟨12, _⟩ => ⟨S512x1, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | .local _ .vmem, ⟨16, _⟩ => ⟨S512x1, .f32⟩
  | .local _ .vmem, ⟨17, _⟩ => ⟨S512x1, .f32⟩
  | .local _ .vmem, ⟨18, _⟩ => ⟨S512x128, .f32⟩
  | _, _ => ⟨S2x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![2, 8, 32], ![false, false, false]⟩

def k0_mult1 : BitVec 32 :=
  let c0_i32_56 : BitVec 32 := 0#32
  c0_i32_56
def k0_mult2 : BitVec 32 :=
  let c0_i32_59 : BitVec 32 := 0#32
  c0_i32_59
def k0_mult3 : BitVec 32 :=
  let c0_i32_65 : BitVec 32 := 0#32
  c0_i32_65
def k0_mult4 : BitVec 32 :=
  let c0_i32_68 : BitVec 32 := 0#32
  c0_i32_68
@[reducible] def k0_t1_loop (i : grid0.Coords) : Scf.Loop 32 :=
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_83 : BitVec 32 := 1#32
  ⟨c0_i32_81, v196, c1_i32_83⟩
def k0_mult5 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_116 : BitVec 32 := 1#32
  let v240 : BitVec 32 := Scalar.addi v239 c1_i32_116
  let c512_i32 : BitVec 32 := 512#32
  let v241 : BitVec 32 := Scalar.muli v240 c512_i32
  v241
def k0_off1 (i : grid0.Coords) (k0_t1 : Fin (k0_t1_loop i).trips) (c1_i32_116 : BitVec 32) : Fin 3 → Nat :=
  let c0_117 : Index := 0#32
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let v240 : BitVec 32 := Scalar.addi v239 c1_i32_116
  let c512_i32 : BitVec 32 := 512#32
  let v241 : BitVec 32 := Scalar.muli v240 c512_i32
  let v242 : BitVec 32 := v241
  let v243 : Index := Scalar.indexCast v242
  let c0_118 : Index := 0#32
  ![0, v243.toNat, 0]
def k0_mult6 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_116 : BitVec 32 := 1#32
  let v240 : BitVec 32 := Scalar.addi v239 c1_i32_116
  let c512_i32_119 : BitVec 32 := 512#32
  let v246 : BitVec 32 := Scalar.muli v240 c512_i32_119
  v246
def k0_off2 (i : grid0.Coords) (k0_t1 : Fin (k0_t1_loop i).trips) (c1_i32_116 : BitVec 32) : Fin 3 → Nat :=
  let c0_120 : Index := 0#32
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let v240 : BitVec 32 := Scalar.addi v239 c1_i32_116
  let c512_i32_119 : BitVec 32 := 512#32
  let v246 : BitVec 32 := Scalar.muli v240 c512_i32_119
  let v247 : BitVec 32 := v246
  let v248 : Index := Scalar.indexCast v247
  let c0_121 : Index := 0#32
  ![0, v248.toNat, 0]
def k0_mult7 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_116 : BitVec 32 := 1#32
  let v240 : BitVec 32 := Scalar.addi v239 c1_i32_116
  let c512_i32_125 : BitVec 32 := 512#32
  let v256 : BitVec 32 := Scalar.muli v240 c512_i32_125
  v256
def k0_off3 (i : grid0.Coords) (k0_t1 : Fin (k0_t1_loop i).trips) (c1_i32_116 : BitVec 32) : Fin 3 → Nat :=
  let c0_126 : Index := 0#32
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let v240 : BitVec 32 := Scalar.addi v239 c1_i32_116
  let c512_i32_125 : BitVec 32 := 512#32
  let v256 : BitVec 32 := Scalar.muli v240 c512_i32_125
  let v257 : BitVec 32 := v256
  let v258 : Index := Scalar.indexCast v257
  let c128_127 : Index := 128#32
  ![0, v258.toNat, 128]
def k0_mult8 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_116 : BitVec 32 := 1#32
  let v240 : BitVec 32 := Scalar.addi v239 c1_i32_116
  let c512_i32_128 : BitVec 32 := 512#32
  let v261 : BitVec 32 := Scalar.muli v240 c512_i32_128
  v261
def k0_mult9 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c512_i32_136 : BitVec 32 := 512#32
  let v272 : BitVec 32 := Scalar.muli v239 c512_i32_136
  v272
def k0_off4 (i : grid0.Coords) (k0_t1 : Fin (k0_t1_loop i).trips) : Fin 3 → Nat :=
  let c0_137 : Index := 0#32
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c512_i32_136 : BitVec 32 := 512#32
  let v272 : BitVec 32 := Scalar.muli v239 c512_i32_136
  let v273 : BitVec 32 := v272
  let v274 : Index := Scalar.indexCast v273
  let c0_138 : Index := 0#32
  ![0, v274.toNat, 0]
def k0_mult10 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c512_i32_156 : BitVec 32 := 512#32
  let v307 : BitVec 32 := Scalar.muli v239 c512_i32_156
  v307
def k0_off5 (i : grid0.Coords) (k0_t1 : Fin (k0_t1_loop i).trips) : Fin 3 → Nat :=
  let c0_157 : Index := 0#32
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c512_i32_156 : BitVec 32 := 512#32
  let v307 : BitVec 32 := Scalar.muli v239 c512_i32_156
  let v308 : BitVec 32 := v307
  let v309 : Index := Scalar.indexCast v308
  let c128_158 : Index := 128#32
  ![0, v309.toNat, 128]
def k0_mult11 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c2_i32_174 : BitVec 32 := 2#32
  let v341 : BitVec 32 := Scalar.addi v239 c2_i32_174
  let c512_i32_175 : BitVec 32 := 512#32
  let v342 : BitVec 32 := Scalar.muli v341 c512_i32_175
  v342
def k0_mult12 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c2_i32_174 : BitVec 32 := 2#32
  let v341 : BitVec 32 := Scalar.addi v239 c2_i32_174
  let c512_i32_178 : BitVec 32 := 512#32
  let v347 : BitVec 32 := Scalar.muli v341 c512_i32_178
  v347
def k0_mult13 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c2_i32_174 : BitVec 32 := 2#32
  let v341 : BitVec 32 := Scalar.addi v239 c2_i32_174
  let c512_i32_184 : BitVec 32 := 512#32
  let v357 : BitVec 32 := Scalar.muli v341 c512_i32_184
  v357
def k0_mult14 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c2_i32_174 : BitVec 32 := 2#32
  let v341 : BitVec 32 := Scalar.addi v239 c2_i32_174
  let c512_i32_187 : BitVec 32 := 512#32
  let v362 : BitVec 32 := Scalar.muli v341 c512_i32_187
  v362
def k0_mult15 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_193 : BitVec 32 := 1#32
  let v372 : BitVec 32 := Scalar.addi v239 c1_i32_193
  let c512_i32_196 : BitVec 32 := 512#32
  let v374 : BitVec 32 := Scalar.muli v372 c512_i32_196
  v374
def k0_mult16 (i : grid0.Coords) (k0_t1 : Fin (k0_t1_loop i).trips) : BitVec 32 :=
  let c2_i32_115 : BitVec 32 := 2#32
  let c0_i32_81 : BitVec 32 := 0#32
  let c1_i32_83 : BitVec 32 := 1#32
  let arg19 : BitVec 32 := Scf.iv c0_i32_81 c1_i32_83 k0_t1
  let v239 : BitVec 32 := Scalar.muli c2_i32_115 arg19
  let c1_i32_193 : BitVec 32 := 1#32
  let v372 : BitVec 32 := Scalar.addi v239 c1_i32_193
  let c512_i32_216 : BitVec 32 := 512#32
  let v409 : BitVec 32 := Scalar.muli v372 c512_i32_216
  v409
@[reducible] def k0_t2_loop (i : grid0.Coords) : Scf.Loop 32 :=
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let v193 : BitVec 32 := Scalar.addi c0_i32_81 v192
  let c1_i32_84 : BitVec 32 := 1#32
  ⟨v196, v193, c1_i32_84⟩
def k0_mult17 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_116 : BitVec 32 := 1#32
  let v240 : BitVec 32 := Scalar.addi v239 c1_i32_116
  let c512_i32 : BitVec 32 := 512#32
  let v241 : BitVec 32 := Scalar.muli v240 c512_i32
  v241
def k0_off6 (i : grid0.Coords) (k0_t2 : Fin (k0_t2_loop i).trips) (c1_i32_116 : BitVec 32) : Fin 3 → Nat :=
  let c0_117 : Index := 0#32
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let v240 : BitVec 32 := Scalar.addi v239 c1_i32_116
  let c512_i32 : BitVec 32 := 512#32
  let v241 : BitVec 32 := Scalar.muli v240 c512_i32
  let v242 : BitVec 32 := v241
  let v243 : Index := Scalar.indexCast v242
  let c0_118 : Index := 0#32
  ![0, v243.toNat, 0]
def k0_mult18 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_116 : BitVec 32 := 1#32
  let v240 : BitVec 32 := Scalar.addi v239 c1_i32_116
  let c512_i32_119 : BitVec 32 := 512#32
  let v246 : BitVec 32 := Scalar.muli v240 c512_i32_119
  v246
def k0_off7 (i : grid0.Coords) (k0_t2 : Fin (k0_t2_loop i).trips) (c1_i32_116 : BitVec 32) : Fin 3 → Nat :=
  let c0_120 : Index := 0#32
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let v240 : BitVec 32 := Scalar.addi v239 c1_i32_116
  let c512_i32_119 : BitVec 32 := 512#32
  let v246 : BitVec 32 := Scalar.muli v240 c512_i32_119
  let v247 : BitVec 32 := v246
  let v248 : Index := Scalar.indexCast v247
  let c0_121 : Index := 0#32
  ![0, v248.toNat, 0]
def k0_mult19 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_116 : BitVec 32 := 1#32
  let v240 : BitVec 32 := Scalar.addi v239 c1_i32_116
  let c512_i32_125 : BitVec 32 := 512#32
  let v256 : BitVec 32 := Scalar.muli v240 c512_i32_125
  v256
def k0_off8 (i : grid0.Coords) (k0_t2 : Fin (k0_t2_loop i).trips) (c1_i32_116 : BitVec 32) : Fin 3 → Nat :=
  let c0_126 : Index := 0#32
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let v240 : BitVec 32 := Scalar.addi v239 c1_i32_116
  let c512_i32_125 : BitVec 32 := 512#32
  let v256 : BitVec 32 := Scalar.muli v240 c512_i32_125
  let v257 : BitVec 32 := v256
  let v258 : Index := Scalar.indexCast v257
  let c128_127 : Index := 128#32
  ![0, v258.toNat, 128]
def k0_mult20 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_116 : BitVec 32 := 1#32
  let v240 : BitVec 32 := Scalar.addi v239 c1_i32_116
  let c512_i32_128 : BitVec 32 := 512#32
  let v261 : BitVec 32 := Scalar.muli v240 c512_i32_128
  v261
def k0_mult21 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c512_i32_136 : BitVec 32 := 512#32
  let v272 : BitVec 32 := Scalar.muli v239 c512_i32_136
  v272
def k0_off9 (i : grid0.Coords) (k0_t2 : Fin (k0_t2_loop i).trips) : Fin 3 → Nat :=
  let c0_137 : Index := 0#32
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c512_i32_136 : BitVec 32 := 512#32
  let v272 : BitVec 32 := Scalar.muli v239 c512_i32_136
  let v273 : BitVec 32 := v272
  let v274 : Index := Scalar.indexCast v273
  let c0_138 : Index := 0#32
  ![0, v274.toNat, 0]
def k0_mult22 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c512_i32_156 : BitVec 32 := 512#32
  let v307 : BitVec 32 := Scalar.muli v239 c512_i32_156
  v307
def k0_off10 (i : grid0.Coords) (k0_t2 : Fin (k0_t2_loop i).trips) : Fin 3 → Nat :=
  let c0_157 : Index := 0#32
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c512_i32_156 : BitVec 32 := 512#32
  let v307 : BitVec 32 := Scalar.muli v239 c512_i32_156
  let v308 : BitVec 32 := v307
  let v309 : Index := Scalar.indexCast v308
  let c128_158 : Index := 128#32
  ![0, v309.toNat, 128]
def k0_mult23 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c2_i32_174 : BitVec 32 := 2#32
  let v341 : BitVec 32 := Scalar.addi v239 c2_i32_174
  let c512_i32_175 : BitVec 32 := 512#32
  let v342 : BitVec 32 := Scalar.muli v341 c512_i32_175
  v342
def k0_mult24 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c2_i32_174 : BitVec 32 := 2#32
  let v341 : BitVec 32 := Scalar.addi v239 c2_i32_174
  let c512_i32_178 : BitVec 32 := 512#32
  let v347 : BitVec 32 := Scalar.muli v341 c512_i32_178
  v347
def k0_mult25 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c2_i32_174 : BitVec 32 := 2#32
  let v341 : BitVec 32 := Scalar.addi v239 c2_i32_174
  let c512_i32_184 : BitVec 32 := 512#32
  let v357 : BitVec 32 := Scalar.muli v341 c512_i32_184
  v357
def k0_mult26 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c2_i32_174 : BitVec 32 := 2#32
  let v341 : BitVec 32 := Scalar.addi v239 c2_i32_174
  let c512_i32_187 : BitVec 32 := 512#32
  let v362 : BitVec 32 := Scalar.muli v341 c512_i32_187
  v362
def k0_mult27 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_193 : BitVec 32 := 1#32
  let v372 : BitVec 32 := Scalar.addi v239 c1_i32_193
  let c512_i32_196 : BitVec 32 := 512#32
  let v374 : BitVec 32 := Scalar.muli v372 c512_i32_196
  v374
def k0_mult28 (i : grid0.Coords) (k0_t2 : Fin (k0_t2_loop i).trips) : BitVec 32 :=
  let c2_i32_115 : BitVec 32 := 2#32
  let c0_i32_81 : BitVec 32 := 0#32
  let arg2 : BitVec 32 := BitVec.ofNat 32 (i 2).val
  let c0_i32_74 : BitVec 32 := 0#32
  let v176 : BitVec 1 := Scalar.cmpi .sgt arg2 c0_i32_74
  let v177 : BitVec 32 := Scalar.extui v176
  let c0_i32_75 : BitVec 32 := 0#32
  let v178 : BitVec 1 := Scalar.cmpi .slt arg2 c0_i32_75
  let v179 : BitVec 32 := Scalar.extui v178
  let v180 : BitVec 32 := Scalar.subi v177 v179
  let c2_i32 : BitVec 32 := 2#32
  let c0_i32_76 : BitVec 32 := 0#32
  let v181 : BitVec 1 := Scalar.cmpi .sgt c2_i32 c0_i32_76
  let v182 : BitVec 32 := Scalar.extui v181
  let c0_i32_77 : BitVec 32 := 0#32
  let v183 : BitVec 1 := Scalar.cmpi .slt c2_i32 c0_i32_77
  let v184 : BitVec 32 := Scalar.extui v183
  let v185 : BitVec 32 := Scalar.subi v182 v184
  let v186 : BitVec 1 := Scalar.cmpi .ne v180 v185
  let v187 : BitVec 32 := Scalar.remsi arg2 c2_i32
  let c0_i32_78 : BitVec 32 := 0#32
  let v188 : BitVec 1 := Scalar.cmpi .ne v187 c0_i32_78
  let v189 : BitVec 1 := Scalar.andi v186 v188
  let v175 : BitVec 32 := Scalar.divsi arg2 c2_i32
  let c1_i32_79 : BitVec 32 := 1#32
  let v190 : BitVec 32 := Scalar.subi v175 c1_i32_79
  let v191 : BitVec 32 := Scalar.select v189 v190 v175
  let v192 : BitVec 32 := Scalar.subi v191 c0_i32_81
  let c1_i32_82 : BitVec 32 := 1#32
  let v194 : BitVec 32 := Scalar.divsi v192 c1_i32_82
  let v195 : BitVec 32 := Scalar.muli v194 c1_i32_82
  let v196 : BitVec 32 := Scalar.addi c0_i32_81 v195
  let c1_i32_84 : BitVec 32 := 1#32
  let arg19 : BitVec 32 := Scf.iv v196 c1_i32_84 k0_t2
  let v239 : BitVec 32 := Scalar.muli c2_i32_115 arg19
  let c1_i32_193 : BitVec 32 := 1#32
  let v372 : BitVec 32 := Scalar.addi v239 c1_i32_193
  let c512_i32_216 : BitVec 32 := 512#32
  let v409 : BitVec 32 := Scalar.muli v372 c512_i32_216
  v409
def k0_cond1 (i : grid0.Coords) : BitVec 1 :=
  let arg2 : BitVec 32 := BitVec.ofNat 32 (i 2).val
  let c2_i32_85 : BitVec 32 := 2#32
  let c0_i32_86 : BitVec 32 := 0#32
  let v197 : BitVec 1 := Scalar.cmpi .eq c2_i32_85 c0_i32_86
  let c1_i32_87 : BitVec 32 := 1#32
  let v198 : BitVec 32 := Scalar.select v197 c1_i32_87 c2_i32_85
  let v199 : BitVec 32 := Scalar.remsi arg2 v198
  let c0_i32_89 : BitVec 32 := 0#32
  let v201 : BitVec 1 := Scalar.cmpi .slt v199 c0_i32_89
  let c0_i32_90 : BitVec 32 := 0#32
  let v202 : BitVec 1 := Scalar.cmpi .slt v198 c0_i32_90
  let v203 : BitVec 1 := Scalar.xori v201 v202
  let c0_i32_88 : BitVec 32 := 0#32
  let v200 : BitVec 1 := Scalar.cmpi .ne v199 c0_i32_88
  let v204 : BitVec 1 := Scalar.andi v203 v200
  let v205 : BitVec 32 := Scalar.addi v199 v198
  let v206 : BitVec 32 := Scalar.select v204 v205 v199
  let c1_i32_91 : BitVec 32 := 1#32
  let v207 : BitVec 1 := Scalar.cmpi .eq v206 c1_i32_91
  let v208 : BitVec 32 := Scalar.extui v207
  let c0_i32_92 : BitVec 32 := 0#32
  let v209 : BitVec 1 := Scalar.cmpi .ne v208 c0_i32_92
  v209

def k0_mult29 (i : grid0.Coords) : BitVec 32 :=
  let arg2 : BitVec 32 := BitVec.ofNat 32 (i 2).val
  let c512_i32 : BitVec 32 := 512#32
  let v239 : BitVec 32 := Scalar.muli arg2 c512_i32
  v239
def k0_off11 (i : grid0.Coords) : Fin 3 → Nat :=
  let c0_115 : Index := 0#32
  let arg2 : BitVec 32 := BitVec.ofNat 32 (i 2).val
  let c512_i32 : BitVec 32 := 512#32
  let v239 : BitVec 32 := Scalar.muli arg2 c512_i32
  let v240 : BitVec 32 := v239
  let v241 : Index := Scalar.indexCast v240
  let c0_116 : Index := 0#32
  ![0, v241.toNat, 0]
def k0_mult30 (i : grid0.Coords) : BitVec 32 :=
  let arg2 : BitVec 32 := BitVec.ofNat 32 (i 2).val
  let c512_i32_117 : BitVec 32 := 512#32
  let v244 : BitVec 32 := Scalar.muli arg2 c512_i32_117
  v244
def k0_off12 (i : grid0.Coords) : Fin 3 → Nat :=
  let c0_118 : Index := 0#32
  let arg2 : BitVec 32 := BitVec.ofNat 32 (i 2).val
  let c512_i32_117 : BitVec 32 := 512#32
  let v244 : BitVec 32 := Scalar.muli arg2 c512_i32_117
  let v245 : BitVec 32 := v244
  let v246 : Index := Scalar.indexCast v245
  let c0_119 : Index := 0#32
  ![0, v246.toNat, 0]
def k0_mult31 (i : grid0.Coords) : BitVec 32 :=
  let arg2 : BitVec 32 := BitVec.ofNat 32 (i 2).val
  let c512_i32_123 : BitVec 32 := 512#32
  let v254 : BitVec 32 := Scalar.muli arg2 c512_i32_123
  v254
def k0_off13 (i : grid0.Coords) : Fin 3 → Nat :=
  let c0_124 : Index := 0#32
  let arg2 : BitVec 32 := BitVec.ofNat 32 (i 2).val
  let c512_i32_123 : BitVec 32 := 512#32
  let v254 : BitVec 32 := Scalar.muli arg2 c512_i32_123
  let v255 : BitVec 32 := v254
  let v256 : Index := Scalar.indexCast v255
  let c128_125 : Index := 128#32
  ![0, v256.toNat, 128]
def k0_mult32 (i : grid0.Coords) : BitVec 32 :=
  let arg2 : BitVec 32 := BitVec.ofNat 32 (i 2).val
  let c512_i32_126 : BitVec 32 := 512#32
  let v259 : BitVec 32 := Scalar.muli arg2 c512_i32_126
  v259
def k0_mult33 (i : grid0.Coords) : BitVec 32 :=
  let arg2 : BitVec 32 := BitVec.ofNat 32 (i 2).val
  let c1_i32_132 : BitVec 32 := 1#32
  let v269 : BitVec 32 := Scalar.subi arg2 c1_i32_132
  let c512_i32_135 : BitVec 32 := 512#32
  let v271 : BitVec 32 := Scalar.muli v269 c512_i32_135
  v271
def k0_off14 (i : grid0.Coords) : Fin 3 → Nat :=
  let c0_136 : Index := 0#32
  let arg2 : BitVec 32 := BitVec.ofNat 32 (i 2).val
  let c1_i32_132 : BitVec 32 := 1#32
  let v269 : BitVec 32 := Scalar.subi arg2 c1_i32_132
  let c512_i32_135 : BitVec 32 := 512#32
  let v271 : BitVec 32 := Scalar.muli v269 c512_i32_135
  let v272 : BitVec 32 := v271
  let v273 : Index := Scalar.indexCast v272
  let c0_137 : Index := 0#32
  ![0, v273.toNat, 0]
def k0_mult34 (i : grid0.Coords) : BitVec 32 :=
  let arg2 : BitVec 32 := BitVec.ofNat 32 (i 2).val
  let c1_i32_132 : BitVec 32 := 1#32
  let v269 : BitVec 32 := Scalar.subi arg2 c1_i32_132
  let c512_i32_155 : BitVec 32 := 512#32
  let v306 : BitVec 32 := Scalar.muli v269 c512_i32_155
  v306
def k0_off15 (i : grid0.Coords) : Fin 3 → Nat :=
  let c0_156 : Index := 0#32
  let arg2 : BitVec 32 := BitVec.ofNat 32 (i 2).val
  let c1_i32_132 : BitVec 32 := 1#32
  let v269 : BitVec 32 := Scalar.subi arg2 c1_i32_132
  let c512_i32_155 : BitVec 32 := 512#32
  let v306 : BitVec 32 := Scalar.muli v269 c512_i32_155
  let v307 : BitVec 32 := v306
  let v308 : Index := Scalar.indexCast v307
  let c128_157 : Index := 128#32
  ![0, v308.toNat, 128]
def k0_mult35 (i : grid0.Coords) : BitVec 32 :=
  let arg2 : BitVec 32 := BitVec.ofNat 32 (i 2).val
  let c512_i32_176 : BitVec 32 := 512#32
  let v343 : BitVec 32 := Scalar.muli arg2 c512_i32_176
  v343
def k0_mult36 (i : grid0.Coords) : BitVec 32 :=
  let arg2 : BitVec 32 := BitVec.ofNat 32 (i 2).val
  let c512_i32_197 : BitVec 32 := 512#32
  let v380 : BitVec 32 := Scalar.muli arg2 c512_i32_197
  v380
def k0_cond2 (i : grid0.Coords) : BitVec 1 :=
  let arg2 : BitVec 32 := BitVec.ofNat 32 (i 2).val
  let c2_i32_93 : BitVec 32 := 2#32
  let c0_i32_94 : BitVec 32 := 0#32
  let v210 : BitVec 1 := Scalar.cmpi .eq c2_i32_93 c0_i32_94
  let c1_i32_95 : BitVec 32 := 1#32
  let v211 : BitVec 32 := Scalar.select v210 c1_i32_95 c2_i32_93
  let v212 : BitVec 32 := Scalar.remsi arg2 v211
  let c0_i32_97 : BitVec 32 := 0#32
  let v214 : BitVec 1 := Scalar.cmpi .slt v212 c0_i32_97
  let c0_i32_98 : BitVec 32 := 0#32
  let v215 : BitVec 1 := Scalar.cmpi .slt v211 c0_i32_98
  let v216 : BitVec 1 := Scalar.xori v214 v215
  let c0_i32_96 : BitVec 32 := 0#32
  let v213 : BitVec 1 := Scalar.cmpi .ne v212 c0_i32_96
  let v217 : BitVec 1 := Scalar.andi v216 v213
  let v218 : BitVec 32 := Scalar.addi v212 v211
  let v219 : BitVec 32 := Scalar.select v217 v218 v212
  let c0_i32_99 : BitVec 32 := 0#32
  let v220 : BitVec 1 := Scalar.cmpi .eq v219 c0_i32_99
  let v221 : BitVec 32 := Scalar.extui v220
  let c0_i32_100 : BitVec 32 := 0#32
  let v222 : BitVec 1 := Scalar.cmpi .ne v221 c0_i32_100
  v222

def k0_mult37 (i : grid0.Coords) : BitVec 32 :=
  let arg2 : BitVec 32 := BitVec.ofNat 32 (i 2).val
  let c512_i32 : BitVec 32 := 512#32
  let v242 : BitVec 32 := Scalar.muli arg2 c512_i32
  v242
def k0_off16 (i : grid0.Coords) : Fin 3 → Nat :=
  let c0_118 : Index := 0#32
  let arg2 : BitVec 32 := BitVec.ofNat 32 (i 2).val
  let c512_i32 : BitVec 32 := 512#32
  let v242 : BitVec 32 := Scalar.muli arg2 c512_i32
  let v243 : BitVec 32 := v242
  let v244 : Index := Scalar.indexCast v243
  let c0_119 : Index := 0#32
  ![0, v244.toNat, 0]
def k0_mult38 (i : grid0.Coords) : BitVec 32 :=
  let arg2 : BitVec 32 := BitVec.ofNat 32 (i 2).val
  let c512_i32_138 : BitVec 32 := 512#32
  let v279 : BitVec 32 := Scalar.muli arg2 c512_i32_138
  v279
def k0_off17 (i : grid0.Coords) : Fin 3 → Nat :=
  let c0_139 : Index := 0#32
  let arg2 : BitVec 32 := BitVec.ofNat 32 (i 2).val
  let c512_i32_138 : BitVec 32 := 512#32
  let v279 : BitVec 32 := Scalar.muli arg2 c512_i32_138
  let v280 : BitVec 32 := v279
  let v281 : Index := Scalar.indexCast v280
  let c128_140 : Index := 128#32
  ![0, v281.toNat, 128]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x16384x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x16384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 1 → Memref sig .tc .vmem S1x16384x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "scale_log2e" => some (((4843165 / 67108864) * (Real.log 2)⁻¹ : ℝ) : EReal)
  | _ => none
-- ==== ReferenceIdeal.lean ====
abbrev S2x16384x16x128 : Shape := ⟨4, ![2, 16384, 16, 128]⟩
abbrev S2x16384x16x64 : Shape := ⟨4, ![2, 16384, 16, 64]⟩
abbrev S2x16384x64 : Shape := ⟨3, ![2, 16384, 64]⟩
abbrev S16384 : Shape := ⟨1, ![16384]⟩
abbrev S2x16x16384x16384 : Shape := ⟨4, ![2, 16, 16384, 16384]⟩
abbrev S2x16384x16384x16 : Shape := ⟨4, ![2, 16384, 16384, 16]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x16x16384 : Shape := ⟨3, ![2, 16, 16384]⟩
abbrev S2x16x16384x1 : Shape := ⟨4, ![2, 16, 16384, 1]⟩
abbrev S2x16x128x16384 : Shape := ⟨4, ![2, 16, 128, 16384]⟩
abbrev S2x16384x16 : Shape := ⟨3, ![2, 16384, 16]⟩
abbrev S2x16384x16x1 : Shape := ⟨4, ![2, 16384, 16, 1]⟩
abbrev S2x16384x2048 : Shape := ⟨3, ![2, 16384, 2048]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x16x128, .f32⟩
  | .hbm, ⟨1, _⟩ => ⟨S2x16384x16x64, .f32⟩
  | .hbm, ⟨2, _⟩ => ⟨S2x16384x16x128, .f32⟩
  | .hbm, ⟨3, _⟩ => ⟨S2x16384x16x128, .f32⟩
  | .hbm, ⟨4, _⟩ => ⟨S2x16384x64, .f32⟩
  | .hbm, ⟨5, _⟩ => ⟨S16384, .i32⟩
  | .hbm, ⟨6, _⟩ => ⟨S2x16x16384x16384, .f32⟩
  | .hbm, ⟨7, _⟩ => ⟨S2x16384x16384x16, .f32⟩
  | .hbm, ⟨8, _⟩ => ⟨S2x16x16384x16384, .f32⟩
  | .hbm, ⟨9, _⟩ => ⟨S2x16x16384x16384, .f32⟩
  | .hbm, ⟨10, _⟩ => ⟨S_, .f32⟩
  | .hbm, ⟨11, _⟩ => ⟨S2x16x16384x16384, .f32⟩
  | .hbm, ⟨12, _⟩ => ⟨S2x16x16384x16384, .f32⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S16384, .i32⟩
  | .hbm, ⟨22, _⟩ => ⟨S16384, .i32⟩
  | .hbm, ⟨23, _⟩ => ⟨S_, .i32⟩
  | .hbm, ⟨24, _⟩ => ⟨S16384, .i32⟩
  | .hbm, ⟨25, _⟩ => ⟨S16384, .i1⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S1x16384, .i32⟩
  | .hbm, ⟨32, _⟩ => ⟨S_, .i32⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S_, .i32⟩
  | .hbm, ⟨38, _⟩ => ⟨S16384, .i32⟩
  | .hbm, ⟨39, _⟩ => ⟨S16384, .i1⟩
  | .hbm, ⟨40, _⟩ => ⟨S16384, .i32⟩
  | .hbm, ⟨41, _⟩ => ⟨S16384, .i32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384x16384, .i32⟩
  | .hbm, ⟨52, _⟩ => ⟨S16384x16384, .i32⟩
  | .hbm, ⟨53, _⟩ => ⟨S16384x16384, .i1⟩
  | .hbm, ⟨54, _⟩ => ⟨S_, .f32⟩
  | .hbm, ⟨55, _⟩ => ⟨S_, .f32⟩
  | .hbm, ⟨56, _⟩ => ⟨S2x16x16384x16384, .i1⟩
  | .hbm, ⟨57, _⟩ => ⟨S2x16x16384x16384, .f32⟩
  | .hbm, ⟨58, _⟩ => ⟨S2x16x16384x16384, .f32⟩
  | .hbm, ⟨59, _⟩ => ⟨S_, .f32⟩
  | .hbm, ⟨60, _⟩ => ⟨S2x16x16384, .f32⟩
  | .hbm, ⟨61, _⟩ => ⟨S2x16x16384x1, .f32⟩
  | .hbm, ⟨62, _⟩ => ⟨S2x16x16384x16384, .f32⟩
  | .hbm, ⟨63, _⟩ => ⟨S2x16x16384x16384, .f32⟩
  | .hbm, ⟨64, _⟩ => ⟨S2x16x16384x16384, .f32⟩
  | .hbm, ⟨65, _⟩ => ⟨S2x16x128x16384, .f32⟩
  | .hbm, ⟨66, _⟩ => ⟨S2x16384x16x128, .f32⟩
  | .hbm, ⟨67, _⟩ => ⟨S_, .f32⟩
  | .hbm, ⟨68, _⟩ => ⟨S2x16x16384, .f32⟩
  | .hbm, ⟨69, _⟩ => ⟨S2x16384x16, .f32⟩
  | .hbm, ⟨70, _⟩ => ⟨S2x16384x16x1, .f32⟩
  | .hbm, ⟨71, _⟩ => ⟨S2x16384x16x128, .f32⟩
  | .hbm, ⟨72, _⟩ => ⟨S2x16384x16x128, .f32⟩
  | .hbm, ⟨73, _⟩ => ⟨S2x16384x2048, .f32⟩
  | .hbm, ⟨74, _⟩ => ⟨S2x16384x2048, .bf16⟩
  | _, _ => ⟨S2x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v14 : Ref sig .tc := ⟨.hbm, 58, rfl⟩
abbrev main_cst_2 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_3 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048x6152 : Shape := ⟨2, ![2048, 6152]⟩
abbrev S2048x1024 : Shape := ⟨2, ![2048, 1024]⟩
abbrev S_ : Shape := ⟨0, ![]⟩
abbrev S2048x2048 : Shape := ⟨2, ![2048, 2048]⟩
abbrev S2048x6144 : Shape := ⟨2, ![2048, 6144]⟩
abbrev S1x2048x6144 : Shape := ⟨3, ![1, 2048, 6144]⟩
abbrev S2x16384x6144 : Shape := ⟨3, ![2, 16384, 6144]⟩
abbrev S2x16384x1024 : Shape := ⟨3, ![2, 16384, 1024]⟩
abbrev S2x512x1024 : Shape := ⟨3, ![2, 512, 1024]⟩
abbrev S1x1024x2048 : Shape := ⟨3, ![1, 1024, 2048]⟩
abbrev S1x2048x1024 : Shape := ⟨3, ![1, 2048, 1024]⟩
abbrev S1x1024x1024 : Shape := ⟨3, ![1, 1024, 1024]⟩
abbrev S1x512x1024 : Shape := ⟨3, ![1, 512, 1024]⟩
abbrev S1024x2048 : Shape := ⟨2, ![1024, 2048]⟩
abbrev S1024x1024 : Shape := ⟨2, ![1024, 1024]⟩
abbrev S512x1024 : Shape := ⟨2, ![512, 1024]⟩

abbrev nBuf : Space → Nat
  | .hbm => 21
  | .vmem => 14
  | .smem => 0
  | _ => 0

abbrev bufTy : (tb : Table) → Fin (tcTables nBuf tb) → BufTy
  | .hbm, ⟨0, _⟩ => ⟨S2x16384x2048, .f32⟩
  | .hbm, ⟨1, _⟩ => ⟨S2048x6152, .f32⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x2048, .f32⟩
  | .hbm, ⟨12, _⟩ => ⟨S2048x6144, .f32⟩
  | .hbm, ⟨13, _⟩ => ⟨S2048x6144, .bf16⟩
  | .hbm, ⟨14, _⟩ => ⟨S1x2048x6144, .bf16⟩
  | .hbm, ⟨15, _⟩ => ⟨S2x16384x2048, .bf16⟩
  | .hbm, ⟨16, _⟩ => ⟨S2x16384x6144, .bf16⟩
  | .hbm, ⟨17, _⟩ => ⟨S2x16384x1024, .f32⟩
  | .hbm, ⟨18, _⟩ => ⟨S2x16384x1024, .f32⟩
  | .hbm, ⟨19, _⟩ => ⟨S2x512x1024, .f32⟩
  | .hbm, ⟨20, _⟩ => ⟨S2x512x1024, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 6], ![false, false, false]⟩

def k0_cond1 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32 : BitVec 32 := 0#32
  let v11 : BitVec 1 := Scalar.cmpi .ne v10 c0_i32
  v11

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg2 : BitVec 32 := BitVec.ofNat 32 (i 2).val
  let c4_i32 : BitVec 32 := 4#32
  let v15 : BitVec 1 := Scalar.cmpi .eq arg2 c4_i32
  let arg1 : BitVec 32 := BitVec.ofNat 32 (i 1).val
  let c15_i32 : BitVec 32 := 15#32
  let v16 : BitVec 1 := Scalar.cmpi .eq arg1 c15_i32
  let v17 : BitVec 1 := Scalar.andi v15 v16
  let v18 : BitVec 32 := Scalar.extui v17
  let c0_i32_9 : BitVec 32 := 0#32
  let v19 : BitVec 1 := Scalar.cmpi .ne v18 c0_i32_9
  v19

def k0_cond4 (i : grid0.Coords) : BitVec 1 :=
  let arg2 : BitVec 32 := BitVec.ofNat 32 (i 2).val
  let c5_i32 : BitVec 32 := 5#32
  let v20 : BitVec 1 := Scalar.cmpi .eq arg2 c5_i32
  let arg1 : BitVec 32 := BitVec.ofNat 32 (i 1).val
  let c15_i32_10 : BitVec 32 := 15#32
  let v21 : BitVec 1 := Scalar.cmpi .eq arg1 c15_i32_10
  let v22 : BitVec 1 := Scalar.andi v20 v21
  let v23 : BitVec 32 := Scalar.extui v22
  let c0_i32_11 : BitVec 32 := 0#32
  let v24 : BitVec 1 := Scalar.cmpi .ne v23 c0_i32_11
  v24

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference2Ideal.lean ====
abbrev S2x16384x2048 : Shape := ⟨3, ![2, 16384, 2048]⟩
abbrev S2048x6152 : Shape := ⟨2, ![2048, 6152]⟩
abbrev S2x16384x6152 : Shape := ⟨3, ![2, 16384, 6152]⟩
abbrev S2x16384x1024 : Shape := ⟨3, ![2, 16384, 1024]⟩
abbrev S2x16384x8 : Shape := ⟨3, ![2, 16384, 8]⟩
abbrev S_ : Shape := ⟨0, ![]⟩
abbrev S2x16384x6144 : Shape := ⟨3, ![2, 16384, 6144]⟩
abbrev S2x512x1024 : Shape := ⟨3, ![2, 512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6152, .f32⟩
  | .hbm, ⟨2, _⟩ => ⟨S2x16384x6152, .f32⟩
  | .hbm, ⟨3, _⟩ => ⟨S2x16384x1024, .f32⟩
  | .hbm, ⟨4, _⟩ => ⟨S2x16384x1024, .f32⟩
  | .hbm, ⟨5, _⟩ => ⟨S2x16384x1024, .f32⟩
  | .hbm, ⟨6, _⟩ => ⟨S2x16384x8, .f32⟩
  | .hbm, ⟨7, _⟩ => ⟨S2x16384x1024, .f32⟩
  | .hbm, ⟨8, _⟩ => ⟨S2x16384x1024, .f32⟩
  | .hbm, ⟨9, _⟩ => ⟨S2x16384x1024, .f32⟩
  | .hbm, ⟨10, _⟩ => ⟨S_, .f32⟩
  | .hbm, ⟨11, _⟩ => ⟨S2x16384x1024, .f32⟩
  | .hbm, ⟨12, _⟩ => ⟨S2x16384x1024, .f32⟩
  | .hbm, ⟨13, _⟩ => ⟨S_, .f32⟩
  | .hbm, ⟨14, _⟩ => ⟨S2x16384x1024, .f32⟩
  | .hbm, ⟨15, _⟩ => ⟨S2x16384x1024, .f32⟩
  | .hbm, ⟨16, _⟩ => ⟨S2x16384x6144, .f32⟩
  | .hbm, ⟨17, _⟩ => ⟨S2x16384x6144, .bf16⟩
  | .hbm, ⟨18, _⟩ => ⟨S2x512x1024, .f32⟩
  | .hbm, ⟨19, _⟩ => ⟨S2x512x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048x6152 : Shape := ⟨2, ![2048, 6152]⟩
abbrev S8 : Shape := ⟨1, ![8]⟩
abbrev S2048x8 : Shape := ⟨2, ![2048, 8]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S2x16384x8 : Shape := ⟨3, ![2, 16384, 8]⟩
abbrev S1x1024x2048 : Shape := ⟨3, ![1, 1024, 2048]⟩
abbrev S1x1024x8 : Shape := ⟨3, ![1, 1024, 8]⟩
abbrev S1024x2048 : Shape := ⟨2, ![1024, 2048]⟩
abbrev S1024x128 : Shape := ⟨2, ![1024, 128]⟩
abbrev S1024x8 : Shape := ⟨2, ![1024, 8]⟩

abbrev nBuf : Space → Nat
  | .hbm => 14
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x6152, .f32⟩
  | .hbm, ⟨2, _⟩ => ⟨S8, .f32⟩
  | .hbm, ⟨3, _⟩ => ⟨S2048x8, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S2x16384x2048, .bf16⟩
  | .hbm, ⟨13, _⟩ => ⟨S2x16384x8, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x128, .bf16⟩
  | .local _ .vmem, ⟨3, _⟩ => ⟨S1x128, .f32⟩
  | .local _ .vmem, ⟨4, _⟩ => ⟨S1x1024x8, .f32⟩
  | .local _ .vmem, ⟨5, _⟩ => ⟨S1x1024x8, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x16384x2048 : Shape := ⟨3, ![2, 16384, 2048]⟩
abbrev S2048x6152 : Shape := ⟨2, ![2048, 6152]⟩
abbrev S8 : Shape := ⟨1, ![8]⟩
abbrev S2x16384x6152 : Shape := ⟨3, ![2, 16384, 6152]⟩
abbrev S2x16384x8 : Shape := ⟨3, ![2, 16384, 8]⟩
abbrev S1x1x8 : Shape := ⟨3, ![1, 1, 8]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x6152, .f32⟩
  | .hbm, ⟨2, _⟩ => ⟨S8, .f32⟩
  | .hbm, ⟨3, _⟩ => ⟨S2x16384x6152, .f32⟩
  | .hbm, ⟨4, _⟩ => ⟨S2x16384x8, .f32⟩
  | .hbm, ⟨5, _⟩ => ⟨S1x1x8, .f32⟩
  | .hbm, ⟨6, _⟩ => ⟨S2x16384x8, .f32⟩
  | .hbm, ⟨7, _⟩ => ⟨S2x16384x8, .f32⟩
  | .hbm, ⟨8, _⟩ => ⟨S2x16384x8, .f32⟩
  | .hbm, ⟨9, _⟩ => ⟨S_, .f32⟩
  | .hbm, ⟨10, _⟩ => ⟨S2x16384x8, .f32⟩
  | .hbm, ⟨11, _⟩ => ⟨S2x16384x8, .f32⟩
  | .hbm, ⟨12, _⟩ => ⟨S2x16384x8, .f32⟩
  | .hbm, ⟨13, _⟩ => ⟨S2x16384x8, .f32⟩
  | .hbm, ⟨14, _⟩ => ⟨S2x16384x8, .i1⟩
  | .hbm, ⟨15, _⟩ => ⟨S2x16384x8, .f32⟩
  | .hbm, ⟨16, _⟩ => ⟨S2x16384x8, .f32⟩
  | .hbm, ⟨17, _⟩ => ⟨S2x16384x8, .f32⟩
  | .hbm, ⟨18, _⟩ => ⟨S2x16384x8, .f32⟩
  | .hbm, ⟨19, _⟩ => ⟨S2x16384x8, .f32⟩
  | .hbm, ⟨20, _⟩ => ⟨S2x16384x8, .f32⟩
  | .hbm, ⟨21, _⟩ => ⟨S2x16384x8, .f32⟩
  | .hbm, ⟨22, _⟩ => ⟨S2x16384x8, .f32⟩
  | .hbm, ⟨23, _⟩ => ⟨S2x16384x8, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S1x2048, .f32⟩
  | .hbm, ⟨3, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x16384x2048 : Shape := ⟨3, ![2, 16384, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x16384x2048, .f32⟩
  | .hbm, ⟨3, _⟩ => ⟨S_, .f32⟩
  | .hbm, ⟨4, _⟩ => ⟨S2x16384, .f32⟩
  | .hbm, ⟨5, _⟩ => ⟨S2x16384x1, .f32⟩
  | .hbm, ⟨6, _⟩ => ⟨S_, .f32⟩
  | .hbm, ⟨7, _⟩ => ⟨S2x16384x1, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S2x16384x1, .f32⟩
  | .hbm, ⟨13, _⟩ => ⟨S2x16384x2048, .f32⟩
  | .hbm, ⟨14, _⟩ => ⟨S2x16384x2048, .f32⟩
  | .hbm, ⟨15, _⟩ => ⟨S1x1x2048, .f32⟩
  | .hbm, ⟨16, _⟩ => ⟨S2x16384x2048, .f32⟩
  | .hbm, ⟨17, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S2x16384x1088 : Shape := ⟨3, ![2, 16384, 1088]⟩
abbrev S512 : Shape := ⟨1, ![512]⟩
abbrev S2x16384x64 : Shape := ⟨3, ![2, 16384, 64]⟩
abbrev S2x16384x32 : Shape := ⟨3, ![2, 16384, 32]⟩
abbrev S2x16384x1024 : Shape := ⟨3, ![2, 16384, 1024]⟩
abbrev S2x16384x1280 : Shape := ⟨3, ![2, 16384, 1280]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x4x32 : Shape := ⟨4, ![1, 16384, 4, 32]⟩
abbrev S16384x128 : Shape := ⟨2, ![16384, 128]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S1x16384x128 : Shape := ⟨3, ![1, 16384, 128]⟩
abbrev S1x512 : Shape := ⟨2, ![1, 512]⟩
abbrev S2x16384x512 : Shape := ⟨3, ![2, 16384, 512]⟩
abbrev S2x16384x128 : Shape := ⟨3, ![2, 16384, 128]⟩
abbrev S1x512x1280 : Shape := ⟨3, ![1, 512, 1280]⟩
abbrev S1x512x128 : Shape := ⟨3, ![1, 512, 128]⟩
abbrev S1x512x512 : Shape := ⟨3, ![1, 512, 512]⟩
abbrev S512x1280 : Shape := ⟨2, ![512, 1280]⟩
abbrev S512x512 : Shape := ⟨2, ![512, 512]⟩
abbrev S512x1 : Shape := ⟨2, ![512, 1]⟩
abbrev S512x128 : Shape := ⟨2, ![512, 128]⟩

abbrev nBuf : Space → Nat
  | .hbm => 43
  | .vmem => 18
  | .smem => 0
  | _ => 0

abbrev bufTy : (tb : Table) → Fin (tcTables nBuf tb) → BufTy
  | .hbm, ⟨0, _⟩ => ⟨S2x16384x1088, .f32⟩
  | .hbm, ⟨1, _⟩ => ⟨S512, .f32⟩
  | .hbm, ⟨2, _⟩ => ⟨S512, .f32⟩
  | .hbm, ⟨3, _⟩ => ⟨S2x16384x64, .f32⟩
  | .hbm, ⟨4, _⟩ => ⟨S2x16384x32, .f32⟩
  | .hbm, ⟨5, _⟩ => ⟨S2x16384x32, .f32⟩
  | .hbm, ⟨6, _⟩ => ⟨S2x16384x64, .f32⟩
  | .hbm, ⟨7, _⟩ => ⟨S2x16384x1024, .f32⟩
  | .hbm, ⟨8, _⟩ => ⟨S2x16384x1280, .f32⟩
  | .hbm, ⟨9, _⟩ => ⟨S16384, .i32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S16384, .f32⟩
  | .hbm, ⟨19, _⟩ => ⟨S16384x1, .f32⟩
  | .hbm, ⟨20, _⟩ => ⟨S1x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S1x16384x1x32, .f32⟩
  | .hbm, ⟨27, _⟩ => ⟨S1x16384x4x32, .f32⟩
  | .hbm, ⟨28, _⟩ => ⟨S16384x128, .f32⟩
  | .hbm, ⟨29, _⟩ => ⟨S16384x32, .f32⟩
  | .hbm, ⟨30, _⟩ => ⟨S16384x64, .f32⟩
  | .hbm, ⟨31, _⟩ => ⟨S1x16384x1x64, .f32⟩
  | .hbm, ⟨32, _⟩ => ⟨S1x16384x2x64, .f32⟩
  | .hbm, ⟨33, _⟩ => ⟨S16384x128, .f32⟩
  | .hbm, ⟨34, _⟩ => ⟨S1x16384x128, .f32⟩
  | .hbm, ⟨35, _⟩ => ⟨S1x16384x128, .f32⟩
  | .hbm, ⟨36, _⟩ => ⟨S1x512, .f32⟩
  | .hbm, ⟨37, _⟩ => ⟨S1x512, .f32⟩
  | .hbm, ⟨38, _⟩ => ⟨S2x16384x512, .bf16⟩
  | .hbm, ⟨39, _⟩ => ⟨S2x16384x512, .f32⟩
  | .hbm, ⟨40, _⟩ => ⟨S2x16384x512, .bf16⟩
  | .hbm, ⟨41, _⟩ => ⟨S2x16384x128, .f32⟩
  | .hbm, ⟨42, _⟩ => ⟨S2x16384x128, .bf16⟩
  | .local _ .vmem, ⟨0, _⟩ => ⟨S1x512x1280, .f32⟩
  | .local _ .vmem, ⟨1, _⟩ => ⟨S1x512x1280, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x128, .f32⟩
  | .local _ .vmem, ⟨15, _⟩ => ⟨S1x512x128, .f32⟩
  | .local _ .vmem, ⟨16, _⟩ => ⟨S1x512x128, .bf16⟩
  | .local _ .vmem, ⟨17, _⟩ => ⟨S1x512x128, .bf16⟩
  | _, _ => ⟨S2x16384x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev main_v33_2 : Ref sig .tc := ⟨.hbm, 40, rfl⟩
abbrev main_v33_3 : Ref sig .tc := ⟨.hbm, 41, rfl⟩
abbrev main_v33_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S2x16384x1088 : Shape := ⟨3, ![2, 16384, 1088]⟩
abbrev S512 : Shape := ⟨1, ![512]⟩
abbrev S2x16384x512 : Shape := ⟨3, ![2, 16384, 512]⟩
abbrev S2x16384x64 : Shape := ⟨3, ![2, 16384, 64]⟩
abbrev S_ : Shape := ⟨0, ![]⟩
abbrev S2x16384 : Shape := ⟨2, ![2, 16384]⟩
abbrev S2x16384x1 : Shape := ⟨3, ![2, 16384, 1]⟩
abbrev S1x1x512 : Shape := ⟨3, ![1, 1, 512]⟩
abbrev S32 : Shape := ⟨1, ![32]⟩
abbrev S16384 : Shape := ⟨1, ![16384]⟩
abbrev S16384x1 : Shape := ⟨2, ![16384, 1]⟩
abbrev S1x32 : Shape := ⟨2, ![1, 32]⟩
abbrev S16384x32 : Shape := ⟨2, ![16384, 32]⟩
abbrev S2x16384x32 : Shape := ⟨3, ![2, 16384, 32]⟩
abbrev S1x16384x32 : Shape := ⟨3, ![1, 16384, 32]⟩
abbrev S2x16384x128 : Shape := ⟨3, ![2, 16384, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x16384x1088, .f32⟩
  | .hbm, ⟨1, _⟩ => ⟨S512, .f32⟩
  | .hbm, ⟨2, _⟩ => ⟨S512, .f32⟩
  | .hbm, ⟨3, _⟩ => ⟨S2x16384x512, .f32⟩
  | .hbm, ⟨4, _⟩ => ⟨S2x16384x512, .f32⟩
  | .hbm, ⟨5, _⟩ => ⟨S2x16384x64, .f32⟩
  | .hbm, ⟨6, _⟩ => ⟨S2x16384x512, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x512, .f32⟩
  | .hbm, ⟨18, _⟩ => ⟨S2x16384x512, .f32⟩
  | .hbm, ⟨19, _⟩ => ⟨S1x1x512, .f32⟩
  | .hbm, ⟨20, _⟩ => ⟨S2x16384x512, .f32⟩
  | .hbm, ⟨21, _⟩ => ⟨S2x16384x512, .f32⟩
  | .hbm, ⟨22, _⟩ => ⟨S2x16384x512, .f32⟩
  | .hbm, ⟨23, _⟩ => ⟨S_, .f32⟩
  | .hbm, ⟨24, _⟩ => ⟨S2x16384, .f32⟩
  | .hbm, ⟨25, _⟩ => ⟨S2x16384x1, .f32⟩
  | .hbm, ⟨26, _⟩ => ⟨S_, .f32⟩
  | .hbm, ⟨27, _⟩ => ⟨S2x16384x1, .f32⟩
  | .hbm, ⟨28, _⟩ => ⟨S2x16384x1, .f32⟩
  | .hbm, ⟨29, _⟩ => ⟨S_, .f32⟩
  | .hbm, ⟨30, _⟩ => ⟨S2x16384x1, .f32⟩
  | .hbm, ⟨31, _⟩ => ⟨S2x16384x1, .f32⟩
  | .hbm, ⟨32, _⟩ => ⟨S2x16384x1, .f32⟩
  | .hbm, ⟨33, _⟩ => ⟨S2x16384x512, .f32⟩
  | .hbm, ⟨34, _⟩ => ⟨S2x16384x512, .f32⟩
  | .hbm, ⟨35, _⟩ => ⟨S1x1x512, .f32⟩
  | .hbm, ⟨36, _⟩ => ⟨S2x16384x512, .f32⟩
  | .hbm, ⟨37, _⟩ => ⟨S2x16384x512, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S16384, .i32⟩
  | .hbm, ⟨47, _⟩ => ⟨S16384, .f32⟩
  | .hbm, ⟨48, _⟩ => ⟨S16384x1, .f32⟩
  | .hbm, ⟨49, _⟩ => ⟨S1x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S2x16384x32, .f32⟩
  | .hbm, ⟨56, _⟩ => ⟨S2x16384x32, .f32⟩
  | .hbm, ⟨57, _⟩ => ⟨S1x16384x32, .f32⟩
  | .hbm, ⟨58, _⟩ => ⟨S2x16384x32, .f32⟩
  | .hbm, ⟨59, _⟩ => ⟨S2x16384x32, .f32⟩
  | .hbm, ⟨60, _⟩ => ⟨S1x16384x32, .f32⟩
  | .hbm, ⟨61, _⟩ => ⟨S2x16384x32, .f32⟩
  | .hbm, ⟨62, _⟩ => ⟨S2x16384x32, .f32⟩
  | .hbm, ⟨63, _⟩ => ⟨S2x16384x32, .f32⟩
  | .hbm, ⟨64, _⟩ => ⟨S1x16384x32, .f32⟩
  | .hbm, ⟨65, _⟩ => ⟨S2x16384x32, .f32⟩
  | .hbm, ⟨66, _⟩ => ⟨S2x16384x32, .f32⟩
  | .hbm, ⟨67, _⟩ => ⟨S1x16384x32, .f32⟩
  | .hbm, ⟨68, _⟩ => ⟨S2x16384x32, .f32⟩
  | .hbm, ⟨69, _⟩ => ⟨S2x16384x32, .f32⟩
  | .hbm, ⟨70, _⟩ => ⟨S2x16384x32, .f32⟩
  | .hbm, ⟨71, _⟩ => ⟨S2x16384x128, .f32⟩
  | .hbm, ⟨72, _⟩ => ⟨S2x16384x512, .bf16⟩
  | .hbm, ⟨73, _⟩ => ⟨S2x16384x512, .bf16⟩
  | .hbm, ⟨74, _⟩ => ⟨S2x16384x128, .bf16⟩
  | _, _ => ⟨S2x16384x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩

abbrev nD : Nat := 1
abbrev τ : Topo := Topo.v7x

variable {F : FTy → Type} [FloatOps F]
-- ==== Proof.Trip.lean ====
module

public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.LoopRemainder
public import Idealize.ShloMosaic.Lib.VecWindow
public import Idealize.ShloMosaic.Lib.Tactic.Stretches

@[expose] public section

set_option maxRecDepth 16384

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of a run. -/
abbrev UU (nD : Nat) (τ : Topo) : Type := UR sig nD τ
/-- No loop needs a variant. -/
abbrev 𝒱₀ : Variants := Variants.none

local notation "𝕄" => MT nD τ sig Unit (Elt F) ℕ (UU nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- `M`'s own elements held at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-! ## What one head computes, over the contents of the windows -/

/-- The offsets of key tile `j`, columns from `128 * h` on. -/
abbrev toff (j h : ℕ) : Fin 3 → ℕ := ![0, 512 * (j % 32), 128 * (h % 2)]

/-- A key or value tile lies inside its window. -/
theorem toff_inb (j h : ℕ) (a : Fin 3) : toff j h a + S1x512x128.size a ≤ S1x16384x256.size a := by
  have h1 : j % 32 < 32 := Nat.mod_lt _ (by decide)
  have h2 : h % 2 < 2 := Nat.mod_lt _ (by decide)
  revert a; rw [Fin.forall_fin_succ, Fin.forall_fin_succ, Fin.forall_fin_succ]
  refine ⟨Nat.le_refl 1, ?_, ?_, fun a => a.elim0⟩
  · show 512 * (j % 32) + 512 ≤ 16384; omega
  · show 128 * (h % 2) + 128 ≤ 256; omega

/-- A rotary key tile lies inside its window. -/
theorem toff_inb' (j : ℕ) (a : Fin 3) : toff j 0 a + S1x512x128.size a ≤ S1x16384x128.size a := by
  have h1 : j % 32 < 32 := Nat.mod_lt _ (by decide)
  revert a; rw [Fin.forall_fin_succ, Fin.forall_fin_succ, Fin.forall_fin_succ]
  refine ⟨Nat.le_refl 1, ?_, ?_, fun a => a.elim0⟩
  · show 512 * (j % 32) + 512 ≤ 16384; omega
  · show 128 * (0 % 2) + 128 ≤ 128; omega

/-- Key (or value) tile `j` of head `h` of a two-head window. -/
def tile (X : S1x16384x256.Idx → Elt F .bf16) (j h : ℕ) : Vec F S1x512x128 .bf16 :=
  View.ld X (Rect.unit (s := S1x16384x256) (toff j h) S1x512x128.size (toff_inb j h))
/-- Key tile `j` of the rotary window, the two heads' the same. -/
def tileR (X : S1x16384x128.Idx → Elt F .bf16) (j : ℕ) : Vec F S1x512x128 .bf16 :=
  View.ld X (Rect.unit (s := S1x16384x128) (toff j 0) S1x512x128.size (toff_inb' j))

/-- A head's running maximum, normaliser and weighted sum. -/
structure St (F : FTy → Type) where
  m : Vec F S512x1 .f32
  l : Vec F S512x1 .f32
  acc : Vec F S512x128 .f32

/-- The state before any tile. -/
def St.init : St F := ⟨k0_pay97, k0_pay98, k0_pay99⟩
/-- One tile of scores `s` and values `v` taken in. -/
def St.step (s : Vec F S512x512 .f32) (v : Vec F S1x512x128 .bf16) (x : St F) : St F :=
  ⟨k0_pay8 s x.m, k0_pay9 s x.m x.l, k0_pay10 s v x.m x.acc⟩

/-- The scores of tile `j` of head `h`. -/
def sc (q : FVec F S512x256 .bf16) (KN : S1x16384x256.Idx → Elt F .bf16) (KR : S1x16384x128.Idx → Elt F .bf16) (h j : ℕ) :
    Vec F S512x512 .f32 := k0_pay3 q (tile KN j h) (tileR KR j)

/-- The state after tiles `0 … n-1`, none masked. -/
def st (q : FVec F S512x256 .bf16) (KN : S1x16384x256.Idx → Elt F .bf16) (KR : S1x16384x128.Idx → Elt F .bf16)
    (VV : S1x16384x256.Idx → Elt F .bf16) (h : ℕ) : ℕ → St F
  | 0 => .init
  | n + 1 => .step (sc q KN KR h n) (tile VV n h) (st q KN KR VV h n)

section Rec
variable (q : FVec F S512x256 .bf16) (KN : S1x16384x256.Idx → Elt F .bf16) (KR : S1x16384x128.Idx → Elt F .bf16)
    (VV : S1x16384x256.Idx → Elt F .bf16) (h j : ℕ) (s : Vec F S512x512 .f32) (v : Vec F S1x512x128 .bf16) (x : St F)
/-- The maximum after one more tile. -/
theorem step_m : (St.step s v x).m = k0_pay8 s x.m := rfl
/-- The sum of the weights after one more tile. -/
theorem step_l : (St.step s v x).l = k0_pay9 s x.m x.l := rfl
/-- The weighted sum after one more tile. -/
theorem step_acc : (St.step s v x).acc = k0_pay10 s v x.m x.acc := rfl
/-- The scores of a tile, as the body computes them. -/
theorem sc_eq : sc q KN KR h j = k0_pay3 q (tile KN j h) (tileR KR j) := rfl
/-- The scores of an odd tile, as the loop computes them. -/
theorem sc_odd : sc q KN KR h (2 * j + 1) = k0_pay3 q (tile KN (2 * j + 1) h) (tileR KR (2 * j + 1)) := rfl
/-- The scores of the next even tile, as the loop computes them. -/
theorem sc_two : sc q KN KR h (2 * (j + 1)) = k0_pay3 q (tile KN (2 * j + 2) h) (tileR KR (2 * j + 2)) := rfl
/-- The state after one more pair of tiles. -/
theorem st_two : st q KN KR VV h (2 * (j + 1)) = .step (sc q KN KR h (2 * j + 1)) (tile VV (2 * j + 1) h)
    (.step (sc q KN KR h (2 * j)) (tile VV (2 * j) h) (st q KN KR VV h (2 * j))) := rfl
end Rec

/-! ## Loads of a tile -/

/-- Reading a tile of a key or value window. -/
theorem readAt_tile {sp : Space} (v : View sig .tc sp S1x16384x256 .bf16) (f : v.ty.Contents (Elt F)) {off : Fin 3 → ℕ} (j h : ℕ)
    (e : off = toff j h) (inb : ∀ a, off a + ![1, 512, 128] a ≤ S1x16384x256.size a) :
    v.readAt (Elt F) (Rect.unit (s := S1x16384x256) off ![1, 512, 128] inb).toLoadRect f = tile (v.read (Elt F) f) j h := by
  subst e; rfl
/-- Reading a tile of the rotary key. -/
theorem readAt_tileR {sp : Space} (v : View sig .tc sp S1x16384x128 .bf16) (f : v.ty.Contents (Elt F)) {off : Fin 3 → ℕ} (j : ℕ)
    (e : off = toff j 0) (inb : ∀ a, off a + ![1, 512, 128] a ≤ S1x16384x128.size a) :
    v.readAt (Elt F) (Rect.unit (s := S1x16384x128) off ![1, 512, 128] inb).toLoadRect f = tileR (v.read (Elt F) f) j := by
  subst e; rfl

/-! ## A whole scratch buffer loaded, stored and loaded again -/
section Whole
variable {sp : Space}

/-- Reading a whole scratch buffer. -/
theorem readAt_w0 (v : View sig .tc sp S512x512 .f32) (f : v.ty.Contents (Elt F)) (inb) :
    v.readAt (Elt F) (Rect.unit (s := S512x512) ![0, 0] ![512, 512] inb).toLoadRect f = v.read (Elt F) f := View.readAt_full v f inb
/-- A whole store covers its buffer. -/
theorem readCov_w0 (v : View sig .tc sp S512x512 .f32) (inb inb') (w) (L : List (View.Piece (Elt F) S512x512 .f32)) :
    v.readCov (⟨Rect.unit (s := S512x512) ![0, 0] ![512, 512] inb', w⟩ :: L) (Rect.unit (s := S512x512) ![0, 0] ![512, 512] inb).toLoadRect = w :=
  View.readCov_full v inb inb' w L
/-- After a whole store the buffer holds what was stored. -/
theorem read_w0 (v : View sig .tc sp S512x512 .f32) (f : v.ty.Contents (Elt F)) (inb) (w) (L : List (View.Piece (Elt F) S512x512 .f32)) :
    v.read (Elt F) (v.writes (Elt F) f (⟨Rect.unit (s := S512x512) ![0, 0] ![512, 512] inb, w⟩ :: L)) = w := View.read_writes_full v f inb w L

/-- Reading a whole scratch buffer. -/
theorem readAt_w1 (v : View sig .tc sp S512x1 .f32) (f : v.ty.Contents (Elt F)) (inb) :
    v.readAt (Elt F) (Rect.unit (s := S512x1) ![0, 0] ![512, 1] inb).toLoadRect f = v.read (Elt F) f := View.readAt_full v f inb
/-- A whole store covers its buffer. -/
theorem readCov_w1 (v : View sig .tc sp S512x1 .f32) (inb inb') (w) (L : List (View.Piece (Elt F) S512x1 .f32)) :
    v.readCov (⟨Rect.unit (s := S512x1) ![0, 0] ![512, 1] inb', w⟩ :: L) (Rect.unit (s := S512x1) ![0, 0] ![512, 1] inb).toLoadRect = w :=
  View.readCov_full v inb inb' w L
/-- After a whole store the buffer holds what was stored. -/
theorem read_w1 (v : View sig .tc sp S512x1 .f32) (f : v.ty.Contents (Elt F)) (inb) (w) (L : List (View.Piece (Elt F) S512x1 .f32)) :
    v.read (Elt F) (v.writes (Elt F) f (⟨Rect.unit (s := S512x1) ![0, 0] ![512, 1] inb, w⟩ :: L)) = w := View.read_writes_full v f inb w L

/-- Reading a whole scratch buffer. -/
theorem readAt_w2 (v : View sig .tc sp S512x128 .f32) (f : v.ty.Contents (Elt F)) (inb) :
    v.readAt (Elt F) (Rect.unit (s := S512x128) ![0, 0] ![512, 128] inb).toLoadRect f = v.read (Elt F) f := View.readAt_full v f inb
/-- A whole store covers its buffer. -/
theorem readCov_w2 (v : View sig .tc sp S512x128 .f32) (inb inb') (w) (L : List (View.Piece (Elt F) S512x128 .f32)) :
    v.readCov (⟨Rect.unit (s := S512x128) ![0, 0] ![512, 128] inb', w⟩ :: L) (Rect.unit (s := S512x128) ![0, 0] ![512, 128] inb).toLoadRect = w :=
  View.readCov_full v inb inb' w L
/-- After a whole store the buffer holds what was stored. -/
theorem read_w2 (v : View sig .tc sp S512x128 .f32) (f : v.ty.Contents (Elt F)) (inb) (w) (L : List (View.Piece (Elt F) S512x128 .f32)) :
    v.read (Elt F) (v.writes (Elt F) f (⟨Rect.unit (s := S512x128) ![0, 0] ![512, 128] inb, w⟩ :: L)) = w := View.read_writes_full v f inb w L
end Whole

/-! ## The offsets, closed -/

/-- The loop goes over half the tiles before the diagonal one. -/
theorem trips1 (i : grid0.Coords) : (k0_t1_loop i).trips = (i 2).val / 2 := by
  show (Scf.Loop.mk (w := 32) _ _ _).trips = _
  have h : ∀ n : Fin 32, (k0_t1_loop (fun a => match a with | 0 => (0 : Fin 2) | 1 => (0 : Fin 8) | 2 => n)).trips = n.val / 2 := by decide +kernel
  exact h (i 2)

/-- There are at most 15 trips. -/
theorem trip_lt (i : grid0.Coords) (k : Fin (k0_t1_loop i).trips) : k.val < 15 := by
  have h := Nat.lt_of_lt_of_eq k.isLt (trips1 i); have : (i 2).val < 32 := (i 2).isLt; omega

/-- The row at which a tile of the loop starts. -/
theorem num1 (k : ℕ) (hk : k < 15) (d : Fin 3) :
    (Scalar.muli (Scalar.addi (Scalar.muli (2#32) (Scf.iv (0#32) (1#32) k)) (BitVec.ofNat 32 d.val)) (512#32)).toNat = 512 * ((2 * k + d.val) % 32) := by
  have h : ∀ (k : Fin 15) (d : Fin 3), (Scalar.muli (Scalar.addi (Scalar.muli (2#32) (Scf.iv (0#32) (1#32) k.val)) (BitVec.ofNat 32 d.val)) (512#32)).toNat = 512 * ((2 * k.val + d.val) % 32) := by decide +kernel
  exact h ⟨k, hk⟩ d
/-- The row at which a trip's first tile starts. -/
theorem num4 (k : ℕ) (hk : k < 15) :
    (Scalar.muli (Scalar.muli (2#32) (Scf.iv (0#32) (1#32) k)) (512#32)).toNat = 512 * ((2 * k) % 32) := by
  have h : ∀ (k : Fin 15), (Scalar.muli (Scalar.muli (2#32) (Scf.iv (0#32) (1#32) k.val)) (512#32)).toNat = 512 * ((2 * k.val) % 32) := by decide +kernel
  exact h ⟨k, hk⟩
/-- The row at which the diagonal tile starts. -/
theorem num12 (n : Fin 32) : (Scalar.muli (BitVec.ofNat 32 n.val) (512#32)).toNat = 512 * (n.val % 32) := by revert n; decide +kernel
/-- The row at which the tile before the diagonal one starts. -/
theorem num14 (n : Fin 32) (h : n.val ≠ 0) : (Scalar.muli (Scalar.subi (BitVec.ofNat 32 n.val) (1#32)) (512#32)).toNat = 512 * ((n.val - 1) % 32) := by
  revert n; decide +kernel

section Off
variable (i : grid0.Coords) (k : Fin (k0_t1_loop i).trips)
/-- Where this load starts, as a tile. -/
theorem off1_1 : k0_off1 i k 1#32 = toff (2 * k.val + 1) 0 := congrArg (![0, ·, 0]) (num1 k (trip_lt i k) 1)
/-- Where this load starts, as a tile. -/
theorem off1_2 : k0_off1 i k 2#32 = toff (2 * k.val + 2) 0 := congrArg (![0, ·, 0]) (num1 k (trip_lt i k) 2)
/-- Where this load starts, as a tile. -/
theorem off2_1 : k0_off2 i k 1#32 = toff (2 * k.val + 1) 0 := congrArg (![0, ·, 0]) (num1 k (trip_lt i k) 1)
/-- Where this load starts, as a tile. -/
theorem off2_2 : k0_off2 i k 2#32 = toff (2 * k.val + 2) 0 := congrArg (![0, ·, 0]) (num1 k (trip_lt i k) 2)
/-- Where this load starts, as a tile. -/
theorem off3_1 : k0_off3 i k 1#32 = toff (2 * k.val + 1) 1 := congrArg (![0, ·, 128]) (num1 k (trip_lt i k) 1)
/-- Where this load starts, as a tile. -/
theorem off3_2 : k0_off3 i k 2#32 = toff (2 * k.val + 2) 1 := congrArg (![0, ·, 128]) (num1 k (trip_lt i k) 2)
/-- Where this load starts, as a tile. -/
theorem off4_0 : k0_off4 i k = toff (2 * k.val) 0 := congrArg (![0, ·, 0]) (num4 k (trip_lt i k))
/-- Where this load starts, as a tile. -/
theorem off5_0 : k0_off5 i k = toff (2 * k.val) 1 := congrArg (![0, ·, 128]) (num4 k (trip_lt i k))
/-- Where this load starts, as a tile. -/
theorem off11_0 : k0_off11 i = toff (i 2).val 0 := congrArg (![0, ·, 0]) (num12 (i 2))
/-- Where this load starts, as a tile. -/
theorem off12_0 : k0_off12 i = toff (i 2).val 0 := congrArg (![0, ·, 0]) (num12 (i 2))
/-- Where this load starts, as a tile. -/
theorem off13_0 : k0_off13 i = toff (i 2).val 1 := congrArg (![0, ·, 128]) (num12 (i 2))
/-- Where this load starts, as a tile. -/
theorem off14_0 (h : (i 2).val ≠ 0) : k0_off14 i = toff ((i 2).val - 1) 0 := congrArg (![0, ·, 0]) (num14 (i 2) h)
/-- Where this load starts, as a tile. -/
theorem off15_0 (h : (i 2).val ≠ 0) : k0_off15 i = toff ((i 2).val - 1) 1 := congrArg (![0, ·, 128]) (num14 (i 2) h)
/-- Where this load starts, as a tile. -/
theorem off16_0 : k0_off16 i = toff (i 2).val 0 := congrArg (![0, ·, 0]) (num12 (i 2))
/-- Where this load starts, as a tile. -/
theorem off17_0 : k0_off17 i = toff (i 2).val 1 := congrArg (![0, ·, 128]) (num12 (i 2))
/-- The first branch is taken on odd query tiles. -/
theorem cond1_iff : k0_cond1 i = 1#1 ↔ (i 2).val % 2 = 1 := by
  have h : ∀ n : Fin 32, k0_cond1 (fun a => match a with | 0 => (0 : Fin 2) | 1 => (0 : Fin 8) | 2 => n) = 1#1 ↔ n.val % 2 = 1 := by decide +kernel
  exact h (i 2)
/-- The second branch is taken on even query tiles. -/
theorem cond2_iff : k0_cond2 i = 1#1 ↔ (i 2).val % 2 = 0 := by
  have h : ∀ n : Fin 32, k0_cond2 (fun a => match a with | 0 => (0 : Fin 2) | 1 => (0 : Fin 8) | 2 => n) = 1#1 ↔ n.val % 2 = 0 := by decide +kernel
  exact h (i 2)
end Off

section Trip
variable (c : Dev nD) (i : grid0.Coords) (arg3 : Memref sig .tc .vmem S1x16384x256 .bf16) (harg3 : arg3.IsWhole)
  (arg4 : Memref sig .tc .vmem S1x512x256 .f32) (harg4 : arg4.IsWhole)
  (arg5 : Memref sig .tc .vmem S1x512x128 .f32) (harg5 : arg5.IsWhole)
  (arg6 : Memref sig .tc .vmem S1x16384x128 .bf16) (harg6 : arg6.IsWhole)
  (arg7 : Memref sig .tc .vmem S1x16384x256 .bf16) (harg7 : arg7.IsWhole)
  (arg8 : Memref sig .tc .vmem S1x512x256 .bf16) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x128 .f32) (harg13 : arg13.IsWhole)
  (arg14 : Memref sig .tc .vmem S512x512 .f32) (harg14 : arg14.IsWhole)
  (arg15 : Memref sig .tc .vmem S512x512 .f32) (harg15 : arg15.IsWhole)
  (arg16 : Memref sig .tc .vmem S512x1 .f32) (harg16 : arg16.IsWhole)
  (arg17 : Memref sig .tc .vmem S512x1 .f32) (harg17 : arg17.IsWhole)
  (arg18 : Memref sig .tc .vmem S512x128 .f32) (harg18 : arg18.IsWhole)
  (arg2 : BitVec 32) (v89 v123 : FVec F S512x256 .bf16) (v158 : FVec F S512x512 .f32) (v159 : Vec F S512x512 .f32)

/-- Before tile pair `n`: the windows unchanged, each head's first score buffer holding tile `n`'s scores, its state that of the tiles before `n`. -/
def tripInv (f3 : Bf (F := F) c arg3) (f6 : Bf (F := F) c arg6) (f7 : Bf (F := F) c arg7) (n : ℕ) : sProp 𝕄 :=
  iprop(pt c arg3 f3 ∗ pt c arg6 f6 ∗ pt c arg7 f7 ∗ (∃ f9 : Bf (F := F) c arg9, pt c arg9 f9 ∗ ⌜arg9.view.read (Elt F) f9 = sc v89 (arg3.view.read (Elt F) f3) (arg6.view.read (Elt F) f6) 0 (n)⌝) ∗ (∃ f10 : Bf (F := F) c arg10, pt c arg10 f10) ∗ (∃ f11 : Bf (F := F) c arg11, pt c arg11 f11 ∗ ⌜arg11.view.read (Elt F) f11 = (st v89 (arg3.view.read (Elt F) f3) (arg6.view.read (Elt F) f6) (arg7.view.read (Elt F) f7) 0 (n)).m⌝) ∗ (∃ f12 : Bf (F := F) c arg12, pt c arg12 f12 ∗ ⌜arg12.view.read (Elt F) f12 = (st v89 (arg3.view.read (Elt F) f3) (arg6.view.read (Elt F) f6) (arg7.view.read (Elt F) f7) 0 (n)).l⌝) ∗ (∃ f13 : Bf (F := F) c arg13, pt c arg13 f13 ∗ ⌜arg13.view.read (Elt F) f13 = (st v89 (arg3.view.read (Elt F) f3) (arg6.view.read (Elt F) f6) (arg7.view.read (Elt F) f7) 0 (n)).acc⌝) ∗ (∃ f14 : Bf (F := F) c arg14, pt c arg14 f14 ∗ ⌜arg14.view.read (Elt F) f14 = sc v123 (arg3.view.read (Elt F) f3) (arg6.view.read (Elt F) f6) 1 (n)⌝) ∗ (∃ f15 : Bf (F := F) c arg15, pt c arg15 f15) ∗ (∃ f16 : Bf (F := F) c arg16, pt c arg16 f16 ∗ ⌜arg16.view.read (Elt F) f16 = (st v123 (arg3.view.read (Elt F) f3) (arg6.view.read (Elt F) f6) (arg7.view.read (Elt F) f7) 1 (n)).m⌝) ∗ (∃ f17 : Bf (F := F) c arg17, pt c arg17 f17 ∗ ⌜arg17.view.read (Elt F) f17 = (st v123 (arg3.view.read (Elt F) f3) (arg6.view.read (Elt F) f6) (arg7.view.read (Elt F) f7) 1 (n)).l⌝) ∗ (∃ f18 : Bf (F := F) c arg18, pt c arg18 f18 ∗ ⌜arg18.view.read (Elt F) f18 = (st v123 (arg3.view.read (Elt F) f3) (arg6.view.read (Elt F) f6) (arg7.view.read (Elt F) f7) 1 (n)).acc⌝))

set_option maxHeartbeats 800000 in
/-- What one trip of the loop does. -/
theorem trip (f3 : Bf (F := F) c arg3) (f6 : Bf (F := F) c arg6) (f7 : Bf (F := F) c arg7) (k : Fin (k0_t1_loop i).trips) :
    tripInv c arg3 arg6 arg7 arg9 arg10 arg11 arg12 arg13 arg14 arg15 arg16 arg17 arg18 v89 v123 f3 f6 f7 (2 * k.val)
    ⊢ wp frame (wpE (defs₀ (F := F)) 𝒱₀ (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v89 v123 v158 v159 k ())
        (fun _ => tripInv c arg3 arg6 arg7 arg9 arg10 arg11 arg12 arg13 arg14 arg15 arg16 arg17 arg18 v89 v123 f3 f6 f7 (2 * (k.val + 1))) := by
  unfold tripInv
  iintro ⟨H3, H6, H7, ⟨%f9, H9, %h9⟩, ⟨%f10, H10⟩, ⟨%f11, H11, %h11⟩, ⟨%f12, H12, %h12⟩, ⟨%f13, H13, %h13⟩, ⟨%f14, H14, %h14⟩, ⟨%f15, H15⟩, ⟨%f16, H16, %h16⟩, ⟨%f17, H17, %h17⟩, ⟨%f18, H18, %h18⟩⟩

  have t9 := (readAt_w0 arg9.view f9 inb_S512x512_S512x512_0_0).trans h9
  have t14 := (readAt_w0 arg14.view f14 inb_S512x512_S512x512_0_0).trans h14
  have t11 := (readAt_w1 arg11.view f11 inb_S512x1_S512x1_0_0).trans h11
  have t12 := (readAt_w1 arg12.view f12 inb_S512x1_S512x1_0_0).trans h12
  have t13 := (readAt_w2 arg13.view f13 inb_S512x128_S512x128_0_0).trans h13
  have t16 := (readAt_w1 arg16.view f16 inb_S512x1_S512x1_0_0).trans h16
  have t17 := (readAt_w1 arg17.view f17 inb_S512x1_S512x1_0_0).trans h17
  have t18 := (readAt_w2 arg18.view f18 inb_S512x128_S512x128_0_0).trans h18
  have u1 := readAt_tile arg3.view f3 _ _ (off1_1 i k) (k0_off1_inb i k 0)
  have u2 := readAt_tile arg3.view f3 _ _ (off1_2 i k) (k0_off1_inb i k 1)
  have u3 := readAt_tileR arg6.view f6 _ (off2_1 i k) (k0_off2_inb i k 0)
  have u4 := readAt_tileR arg6.view f6 _ (off2_2 i k) (k0_off2_inb i k 1)
  have u5 := readAt_tile arg3.view f3 _ _ (off3_1 i k) (k0_off3_inb i k 0)
  have u6 := readAt_tile arg3.view f3 _ _ (off3_2 i k) (k0_off3_inb i k 1)
  have u7 := readAt_tile arg7.view f7 _ _ (off4_0 i k) (k0_off4_inb i k)
  have u8 := readAt_tile arg7.view f7 _ _ (off5_0 i k) (k0_off5_inb i k)
  have u9 := readAt_tile arg7.view f7 _ _ (off1_1 i k) (k0_off1_inb i k 0)
  have u10 := readAt_tile arg7.view f7 _ _ (off3_1 i k) (k0_off3_inb i k 0)
  sl_unfold [k0_t1_body]
  sl_exec
  sl_step
  isplitl [H3]
  · iexact H3
  isplitl [H6]
  · iexact H6
  isplitl [H7]
  · iexact H7
  isplitl [H9]
  · iexists _
    isplitl [H9]
    · iexact H9
    ipureintro
    refine (View.read_writes_full _ _ _ _ _).trans ?_
    rw [sc_two]
    sl_open_run
    try simp only [readCov_w0, readCov_w1, readCov_w2]
    rfl
  isplitl [H10]
  · iexists _
    iexact H10
  isplitl [H11]
  · iexists _
    isplitl [H11]
    · iexact H11
    ipureintro
    refine (View.read_writes_full _ _ _ _ _).trans ?_
    rw [st_two, step_m, step_m, sc_odd]
    sl_open_run
    try simp only [readCov_w0, readCov_w1, readCov_w2]
    rfl
  isplitl [H12]
  · iexists _
    isplitl [H12]
    · iexact H12
    ipureintro
    refine (View.read_writes_full _ _ _ _ _).trans ?_
    rw [st_two, step_l, step_m, step_l, sc_odd]
    sl_open_run
    try simp only [readCov_w0, readCov_w1, readCov_w2]
    rfl
  isplitl [H13]
  · iexists _
    isplitl [H13]
    · iexact H13
    ipureintro
    refine (View.read_writes_full _ _ _ _ _).trans ?_
    rw [st_two, step_acc, step_m, step_acc, sc_odd]
    sl_open_run
    try simp only [readCov_w0, readCov_w1, readCov_w2]
    rfl
  isplitl [H14]
  · iexists _
    isplitl [H14]
    · iexact H14
    ipureintro
    refine (View.read_writes_full _ _ _ _ _).trans ?_
    rw [sc_two]
    sl_open_run
    try simp only [readCov_w0, readCov_w1, readCov_w2]
    rfl
  isplitl [H15]
  · iexists _
    iexact H15
  isplitl [H16]
  · iexists _
    isplitl [H16]
    · iexact H16
    ipureintro
    refine (View.read_writes_full _ _ _ _ _).trans ?_
    rw [st_two, step_m, step_m, sc_odd]
    sl_open_run
    try simp only [readCov_w0, readCov_w1, readCov_w2]
    rfl
  isplitl [H17]
  · iexists _
    isplitl [H17]
    · iexact H17
    ipureintro
    refine (View.read_writes_full _ _ _ _ _).trans ?_
    rw [st_two, step_l, step_m, step_l, sc_odd]
    sl_open_run
    try simp only [readCov_w0, readCov_w1, readCov_w2]
    rfl
  · iexists _
    isplitl [H18]
    · iexact H18
    ipureintro
    refine (View.read_writes_full _ _ _ _ _).trans ?_
    rw [st_two, step_acc, step_m, step_acc, sc_odd]
    sl_open_run
    try simp only [readCov_w0, readCov_w1, readCov_w2]
    rfl
end Trip

end Cert.Proof.Flash
end
-- ==== Proof.Body.lean ====
module

public import proofs.«01_k».proof.Proof.Trip
public import proofs.«01_k».proof.Proof.Gen.KernelIdeal.Loops
public import proofs.«01_k».proof.Proof.Gen.KernelIdeal.Frame
public import Idealize.ShloMosaic.Lib.Tactic
public import Idealize.ShloMosaic.Lib.LoopRemainder
public import Idealize.ShloMosaic.Lib.VecWindow
public import Idealize.ShloMosaic.Lib.Tactic.Stretches

@[expose] public section

set_option maxRecDepth 16384

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

/-! ## What the kernel leaves in its output window -/

/-- The column index of a rotary tile, and its scaled and rounded queries' lanes kept for head 0. -/
abbrev LANE : IVec S512x128 32 := iota .tc S512x128 32 [1] iota_S512x128_d1_w32
/-- Which keys of the diagonal tile a query sees. -/
def MASK : IVec S512x512 1 := k0_pay96 k0_pay88 (k0_pay91 (iota .tc S512x512 32 [1] iota_S512x512_d1_w32) (64#32) k0_pay89 k0_pay90 (Scalar.cmpi .sgt (64#32) (0#32)))
/-- A head's query columns lie inside the window. -/
theorem inbq (h : ℕ) (a : Fin 3) : ![0, 0, 128 * (h % 2)] a + S1x512x128.size a ≤ S1x512x256.size a := by
  have h2 : h % 2 < 2 := Nat.mod_lt _ (by decide)
  revert a; rw [Fin.forall_fin_succ, Fin.forall_fin_succ, Fin.forall_fin_succ]
  refine ⟨Nat.le_refl 1, Nat.le_refl 512, ?_, fun a => a.elim0⟩
  show 128 * (h % 2) + 128 ≤ 256; omega
/-- Head `h`'s columns of the query window. -/
def qt (X : S1x512x256.Idx → Elt F .f32) (h : ℕ) : Vec F S1x512x128 .f32 :=
  View.ld X (Rect.unit (s := S1x512x256) ![0, 0, 128 * (h % 2)] S1x512x128.size (inbq h))
/-- The two heads' queries, scaled and rounded. -/
def q0 (X4 : S1x512x256.Idx → Elt F .f32) (X5 : S1x512x128.Idx → Elt F .f32) : FVec F S512x256 .bf16 :=
  k0_pay94 (k0_pay92 LANE (k0_pay87 X5)) (k0_pay93 (qt X4 0)) (Named.named κ "scale_log2e" 0x3DD53B94#32)
/-- The second head's scaled query. -/
def q1 (X4 : S1x512x256.Idx → Elt F .f32) (X5 : S1x512x128.Idx → Elt F .f32) : FVec F S512x256 .bf16 :=
  k0_pay95 LANE (k0_pay87 X5) (qt X4 1)
/-- The state after tiles `0 … n`, the last masked. -/
def fin (q : FVec F S512x256 .bf16) (KN : S1x16384x256.Idx → Elt F .bf16) (KR : S1x16384x128.Idx → Elt F .bf16)
    (VV : S1x16384x256.Idx → Elt F .bf16) (h n : ℕ) : St F :=
  .step (k0_pay65 MASK (sc q KN KR h n)) (tile VV n h) (st q KN KR VV h n)
/-- The two column halves of the output window, as the kernel stores them. -/
def out0 (KN : S1x16384x256.Idx → Elt F .bf16) (X4 : S1x512x256.Idx → Elt F .f32) (X5 : S1x512x128.Idx → Elt F .f32) (KR : S1x16384x128.Idx → Elt F .bf16)
    (VV : S1x16384x256.Idx → Elt F .bf16) (n : ℕ) : Vec F S1x512x128 .bf16 :=
  k0_pay1 (k0_pay125 (fin (q0 X4 X5) KN KR VV 0 n).acc (fin (q0 X4 X5) KN KR VV 0 n).l)
/-- The second head's result. -/
def out1 (KN : S1x16384x256.Idx → Elt F .bf16) (X4 : S1x512x256.Idx → Elt F .f32) (X5 : S1x512x128.Idx → Elt F .f32) (KR : S1x16384x128.Idx → Elt F .bf16)
    (VV : S1x16384x256.Idx → Elt F .bf16) (n : ℕ) : Vec F S1x512x128 .bf16 :=
  k0_pay2 (fin (q1 X4 X5) KN KR VV 1 n).acc (fin (q1 X4 X5) KN KR VV 1 n).l
/-- The output window's pieces. -/
def outs (KN : S1x16384x256.Idx → Elt F .bf16) (X4 : S1x512x256.Idx → Elt F .f32) (X5 : S1x512x128.Idx → Elt F .f32) (KR : S1x16384x128.Idx → Elt F .bf16)
    (VV : S1x16384x256.Idx → Elt F .bf16) (n : ℕ) : List (View.Piece (Elt F) S1x512x256 .bf16) :=
  [⟨Rect.unit (s := S1x512x256) ![0, 0, 128] S1x512x128.size inb_S1x512x256_S1x512x128_0_0_128, out1 KN X4 X5 KR VV n⟩,
   ⟨Rect.unit (s := S1x512x256) ![0, 0, 0] S1x512x128.size inb_S1x512x256_S1x512x128_0_0_0, out0 KN X4 X5 KR VV n⟩]

/-- The state after a positive number of tiles, by its last tile. -/
theorem st_pred (q : FVec F S512x256 .bf16) (KN : S1x16384x256.Idx → Elt F .bf16) (KR : S1x16384x128.Idx → Elt F .bf16)
    (VV : S1x16384x256.Idx → Elt F .bf16) (h n : ℕ) (hn : n ≠ 0) :
    st q KN KR VV h n = .step (sc q KN KR h (n - 1)) (tile VV (n - 1) h) (st q KN KR VV h (n - 1)) := by
  obtain ⟨m, rfl⟩ := Nat.exists_eq_succ_of_ne_zero hn; rfl

section Body
variable (c : Dev nD) (i : grid0.Coords) (arg3 : Memref sig .tc .vmem S1x16384x256 .bf16) (harg3 : arg3.IsWhole)
  (arg4 : Memref sig .tc .vmem S1x512x256 .f32) (harg4 : arg4.IsWhole)
  (arg5 : Memref sig .tc .vmem S1x512x128 .f32) (harg5 : arg5.IsWhole)
  (arg6 : Memref sig .tc .vmem S1x16384x128 .bf16) (harg6 : arg6.IsWhole)
  (arg7 : Memref sig .tc .vmem S1x16384x256 .bf16) (harg7 : arg7.IsWhole)
  (arg8 : Memref sig .tc .vmem S1x512x256 .bf16) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x128 .f32) (harg13 : arg13.IsWhole)
  (arg14 : Memref sig .tc .vmem S512x512 .f32) (harg14 : arg14.IsWhole)
  (arg15 : Memref sig .tc .vmem S512x512 .f32) (harg15 : arg15.IsWhole)
  (arg16 : Memref sig .tc .vmem S512x1 .f32) (harg16 : arg16.IsWhole)
  (arg17 : Memref sig .tc .vmem S512x1 .f32) (harg17 : arg17.IsWhole)
  (arg18 : Memref sig .tc .vmem S512x128 .f32) (harg18 : arg18.IsWhole)

/-- After the body: the input windows unchanged, the output window with both halves stored, the scratch buffers at some contents. -/
def bodyPost (f3 : Bf (F := F) c arg3) (f4 : Bf (F := F) c arg4) (f5 : Bf (F := F) c arg5) (f6 : Bf (F := F) c arg6) (f7 : Bf (F := F) c arg7) (f8 : Bf (F := F) c arg8) : sProp 𝕄 :=
  iprop(pt c arg3 f3 ∗ pt c arg4 f4 ∗ pt c arg5 f5 ∗ pt c arg6 f6 ∗ pt c arg7 f7 ∗ pt c arg8 (arg8.view.writes (Elt F) f8 (outs (arg3.view.read (Elt F) f3) (arg4.view.read (Elt F) f4) (arg5.view.read (Elt F) f5) (arg6.view.read (Elt F) f6) (arg7.view.read (Elt F) f7) (i 2).val))
    ∗ (∃ f : Bf (F := F) c arg9, pt c arg9 f) ∗ (∃ f : Bf (F := F) c arg10, pt c arg10 f) ∗ (∃ f : Bf (F := F) c arg11, pt c arg11 f) ∗ (∃ f : Bf (F := F) c arg12, pt c arg12 f) ∗ (∃ f : Bf (F := F) c arg13, pt c arg13 f) ∗ (∃ f : Bf (F := F) c arg14, pt c arg14 f) ∗ (∃ f : Bf (F := F) c arg15, pt c arg15 f) ∗ (∃ f : Bf (F := F) c arg16, pt c arg16 f) ∗ (∃ f : Bf (F := F) c arg17, pt c arg17 f) ∗ (∃ f : Bf (F := F) c arg18, pt c arg18 f))

set_option maxHeartbeats 800000 in
/-- What the body does on an odd query tile. -/
theorem body_odd (hp : (i 2).val % 2 = 1) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
    ⊢ wp frame (wpE (defs₀ (F := F)) 𝒱₀ (c : Thread nD τ) none) Set.univ
        (cc0_mla_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => bodyPost c i arg3 arg4 arg5 arg6 arg7 arg8 arg9 arg10 arg11 arg12 arg13 arg14 arg15 arg16 arg17 arg18 f3 f4 f5 f6 f7 f8) := by
  have k0_h1 : k0_cond1 i = 1#1 := (cond1_iff i).2 hp
  have k0_h2 : ¬ k0_cond2 i = 1#1 := fun h => by have := (cond2_iff i).1 h; omega
  have hn0 : (i 2).val ≠ 0 := by omega
  have x1 : arg3.view.readAt (Elt F) (Rect.unit (s := S1x16384x256) ![0, 0, 0] S1x512x128.size inb_S1x16384x256_S1x512x128_0_0_0).toLoadRect f3 = tile (arg3.view.read (Elt F) f3) 0 0 := rfl
  have x2 : arg3.view.readAt (Elt F) (Rect.unit (s := S1x16384x256) ![0, 0, 128] S1x512x128.size inb_S1x16384x256_S1x512x128_0_0_128).toLoadRect f3 = tile (arg3.view.read (Elt F) f3) 0 1 := rfl
  have x3 : arg6.view.readAt (Elt F) (Rect.unit (s := S1x16384x128) ![0, 0, 0] S1x512x128.size inb_S1x16384x128_S1x512x128_0_0_0).toLoadRect f6 = tileR (arg6.view.read (Elt F) f6) 0 := rfl
  have x4 : arg4.view.readAt (Elt F) (Rect.unit (s := S1x512x256) ![0, 0, 0] S1x512x128.size inb_S1x512x256_S1x512x128_0_0_0).toLoadRect f4 = qt (arg4.view.read (Elt F) f4) 0 := rfl
  have x5 : arg4.view.readAt (Elt F) (Rect.unit (s := S1x512x256) ![0, 0, 128] S1x512x128.size inb_S1x512x256_S1x512x128_0_0_128).toLoadRect f4 = qt (arg4.view.read (Elt F) f4) 1 := rfl
  have x6 : arg5.view.readAt (Elt F) (Rect.unit (s := S1x512x128) ![0, 0, 0] S1x512x128.size inb_S1x512x128_S1x512x128_0_0_0).toLoadRect f5 = arg5.view.read (Elt F) f5 := View.readAt_full _ _ _
  iintro ⟨H3, H4, H5, H6, H7, H8, H9, H10, H11, H12, H13, H14, H15, H16, H17, H18⟩
  sl_exec
  iapply (Scf.wp_for_bind frame (wpE (defs₀ (F := F)) 𝒱₀ (c : Thread nD τ) none) Set.univ _ _ _ _ () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (q0 (arg4.view.read (Elt F) f4) (arg5.view.read (Elt F) f5)) (q1 (arg4.view.read (Elt F) f4) (arg5.view.read (Elt F) f5)) (constant S512x512 .f32 0#32) (constant S512x512 .f32 0#32)) (fun k _ => tripInv c arg3 arg6 arg7 arg9 arg10 arg11 arg12 arg13 arg14 arg15 arg16 arg17 arg18 (q0 (arg4.view.read (Elt F) f4) (arg5.view.read (Elt F) f5)) (q1 (arg4.view.read (Elt F) f4) (arg5.view.read (Elt F) f5)) f3 f6 f7 (2 * k)) (fun k _ => trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (q0 (arg4.view.read (Elt F) f4) (arg5.view.read (Elt F) f5)) (q1 (arg4.view.read (Elt F) f4) (arg5.view.read (Elt F) f5)) (constant S512x512 .f32 0#32) (constant S512x512 .f32 0#32) f3 f6 f7 k)) $$ [H3 H6 H7 H9 H10 H11 H12 H13 H14 H15 H16 H17 H18]
  · unfold tripInv
    isplitl [H3]
    · iexact H3
    isplitl [H6]
    · iexact H6
    isplitl [H7]
    · iexact H7
    isplitl [H9]
    · iexists _
      isplitl [H9]
      · iexact H9
      ipureintro
      refine (View.read_writes_full _ _ _ _ _).trans ?_
      sl_open_run
      rfl
    isplitl [H10]
    · iexists _
      iexact H10
    isplitl [H11]
    · iexists _
      isplitl [H11]
      · iexact H11
      ipureintro
      refine (View.read_writes_full _ _ _ _ _).trans ?_
      sl_open_run
      rfl
    isplitl [H12]
    · iexists _
      isplitl [H12]
      · iexact H12
      ipureintro
      refine (View.read_writes_full _ _ _ _ _).trans ?_
      sl_open_run
      rfl
    isplitl [H13]
    · iexists _
      isplitl [H13]
      · iexact H13
      ipureintro
      refine (View.read_writes_full _ _ _ _ _).trans ?_
      sl_open_run
      rfl
    isplitl [H14]
    · iexists _
      isplitl [H14]
      · iexact H14
      ipureintro
      refine (View.read_writes_full _ _ _ _ _).trans ?_
      sl_open_run
      rfl
    isplitl [H15]
    · iexists _
      iexact H15
    isplitl [H16]
    · iexists _
      isplitl [H16]
      · iexact H16
      ipureintro
      refine (View.read_writes_full _ _ _ _ _).trans ?_
      sl_open_run
      rfl
    isplitl [H17]
    · iexists _
      isplitl [H17]
      · iexact H17
      ipureintro
      refine (View.read_writes_full _ _ _ _ _).trans ?_
      sl_open_run
      rfl
    · iexists _
      isplitl [H18]
      · iexact H18
      ipureintro
      refine (View.read_writes_full _ _ _ _ _).trans ?_
      sl_open_run
      rfl
  iintro %acc HI
  unfold tripInv
  icases HI with ⟨H3, H6, H7, ⟨%g9, H9, %h9⟩, ⟨%g10, H10⟩, ⟨%g11, H11, %h11⟩, ⟨%g12, H12, %h12⟩, ⟨%g13, H13, %h13⟩, ⟨%g14, H14, %h14⟩, ⟨%g15, H15⟩, ⟨%g16, H16, %h16⟩, ⟨%g17, H17, %h17⟩, ⟨%g18, H18, %h18⟩⟩
  have eT : 2 * Scf.trips (k0_t1_loop i).lb (k0_t1_loop i).ub (k0_t1_loop i).st = (i 2).val - 1 := by
    have h := trips1 i; have h' : Scf.trips (k0_t1_loop i).lb (k0_t1_loop i).ub (k0_t1_loop i).st = (i 2).val / 2 := h
    rw [h']; omega
  rw [eT] at h9 h11 h12 h13 h14 h16 h17 h18
  have t9 := (readAt_w0 arg9.view g9 inb_S512x512_S512x512_0_0).trans h9
  have t14 := (readAt_w0 arg14.view g14 inb_S512x512_S512x512_0_0).trans h14
  have t11 := (readAt_w1 arg11.view g11 inb_S512x1_S512x1_0_0).trans h11
  have t12 := (readAt_w1 arg12.view g12 inb_S512x1_S512x1_0_0).trans h12
  have t13 := (readAt_w2 arg13.view g13 inb_S512x128_S512x128_0_0).trans h13
  have t16 := (readAt_w1 arg16.view g16 inb_S512x1_S512x1_0_0).trans h16
  have t17 := (readAt_w1 arg17.view g17 inb_S512x1_S512x1_0_0).trans h17
  have t18 := (readAt_w2 arg18.view g18 inb_S512x128_S512x128_0_0).trans h18
  have u1 := readAt_tile arg3.view f3 _ _ (off11_0 i) (k0_off11_inb i k0_h1)
  have u2 := readAt_tileR arg6.view f6 _ (off12_0 i) (k0_off12_inb i k0_h1)
  have u3 := readAt_tile arg3.view f3 _ _ (off13_0 i) (k0_off13_inb i k0_h1)
  have u4 := readAt_tile arg7.view f7 _ _ (off14_0 i hn0) (k0_off14_inb i k0_h1)
  have u5 := readAt_tile arg7.view f7 _ _ (off15_0 i hn0) (k0_off15_inb i k0_h1)
  have u6 := readAt_tile arg7.view f7 _ _ (off11_0 i) (k0_off11_inb i k0_h1)
  have u7 := readAt_tile arg7.view f7 _ _ (off13_0 i) (k0_off13_inb i k0_h1)
  sl_exec
  sl_step
  unfold bodyPost
  isplitl [H3]
  · iexact H3
  isplitl [H4]
  · iexact H4
  isplitl [H5]
  · iexact H5
  isplitl [H6]
  · iexact H6
  isplitl [H7]
  · iexact H7
  isplitl [H8]
  · unfold outs out0 out1 fin
    rw [st_pred _ _ _ _ _ _ hn0, st_pred _ _ _ _ _ _ hn0]
    simp only [step_m, step_l, step_acc]
    sl_open_run
    try simp only [readCov_w0, readCov_w1, readCov_w2]
    iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  isplitl [H14]
  · iexists _
    iexact H14
  isplitl [H15]
  · iexists _
    iexact H15
  isplitl [H16]
  · iexists _
    iexact H16
  isplitl [H17]
  · iexists _
    iexact H17
  iexists _
  iexact H18

set_option maxHeartbeats 800000 in
/-- What the body does on an even query tile. -/
theorem body_even (hp : (i 2).val % 2 = 0) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
    ⊢ wp frame (wpE (defs₀ (F := F)) 𝒱₀ (c : Thread nD τ) none) Set.univ
        (cc0_mla_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => bodyPost c i arg3 arg4 arg5 arg6 arg7 arg8 arg9 arg10 arg11 arg12 arg13 arg14 arg15 arg16 arg17 arg18 f3 f4 f5 f6 f7 f8) := by
  have k0_h1 : ¬ k0_cond1 i = 1#1 := fun h => by have := (cond1_iff i).1 h; omega
  have k0_h2 : k0_cond2 i = 1#1 := (cond2_iff i).2 hp
  have x1 : arg3.view.readAt (Elt F) (Rect.unit (s := S1x16384x256) ![0, 0, 0] S1x512x128.size inb_S1x16384x256_S1x512x128_0_0_0).toLoadRect f3 = tile (arg3.view.read (Elt F) f3) 0 0 := rfl
  have x2 : arg3.view.readAt (Elt F) (Rect.unit (s := S1x16384x256) ![0, 0, 128] S1x512x128.size inb_S1x16384x256_S1x512x128_0_0_128).toLoadRect f3 = tile (arg3.view.read (Elt F) f3) 0 1 := rfl
  have x3 : arg6.view.readAt (Elt F) (Rect.unit (s := S1x16384x128) ![0, 0, 0] S1x512x128.size inb_S1x16384x128_S1x512x128_0_0_0).toLoadRect f6 = tileR (arg6.view.read (Elt F) f6) 0 := rfl
  have x4 : arg4.view.readAt (Elt F) (Rect.unit (s := S1x512x256) ![0, 0, 0] S1x512x128.size inb_S1x512x256_S1x512x128_0_0_0).toLoadRect f4 = qt (arg4.view.read (Elt F) f4) 0 := rfl
  have x5 : arg4.view.readAt (Elt F) (Rect.unit (s := S1x512x256) ![0, 0, 128] S1x512x128.size inb_S1x512x256_S1x512x128_0_0_128).toLoadRect f4 = qt (arg4.view.read (Elt F) f4) 1 := rfl
  have x6 : arg5.view.readAt (Elt F) (Rect.unit (s := S1x512x128) ![0, 0, 0] S1x512x128.size inb_S1x512x128_S1x512x128_0_0_0).toLoadRect f5 = arg5.view.read (Elt F) f5 := View.readAt_full _ _ _
  iintro ⟨H3, H4, H5, H6, H7, H8, H9, H10, H11, H12, H13, H14, H15, H16, H17, H18⟩
  sl_exec
  iapply (Scf.wp_for_bind frame (wpE (defs₀ (F := F)) 𝒱₀ (c : Thread nD τ) none) Set.univ _ _ _ _ () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (q0 (arg4.view.read (Elt F) f4) (arg5.view.read (Elt F) f5)) (q1 (arg4.view.read (Elt F) f4) (arg5.view.read (Elt F) f5)) (constant S512x512 .f32 0#32) (constant S512x512 .f32 0#32)) (fun k _ => tripInv c arg3 arg6 arg7 arg9 arg10 arg11 arg12 arg13 arg14 arg15 arg16 arg17 arg18 (q0 (arg4.view.read (Elt F) f4) (arg5.view.read (Elt F) f5)) (q1 (arg4.view.read (Elt F) f4) (arg5.view.read (Elt F) f5)) f3 f6 f7 (2 * k)) (fun k _ => trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 2).val) (q0 (arg4.view.read (Elt F) f4) (arg5.view.read (Elt F) f5)) (q1 (arg4.view.read (Elt F) f4) (arg5.view.read (Elt F) f5)) (constant S512x512 .f32 0#32) (constant S512x512 .f32 0#32) f3 f6 f7 k)) $$ [H3 H6 H7 H9 H10 H11 H12 H13 H14 H15 H16 H17 H18]
  · unfold tripInv
    isplitl [H3]
    · iexact H3
    isplitl [H6]
    · iexact H6
    isplitl [H7]
    · iexact H7
    isplitl [H9]
    · iexists _
      isplitl [H9]
      · iexact H9
      ipureintro
      refine (View.read_writes_full _ _ _ _ _).trans ?_
      sl_open_run
      rfl
    isplitl [H10]
    · iexists _
      iexact H10
    isplitl [H11]
    · iexists _
      isplitl [H11]
      · iexact H11
      ipureintro
      refine (View.read_writes_full _ _ _ _ _).trans ?_
      sl_open_run
      rfl
    isplitl [H12]
    · iexists _
      isplitl [H12]
      · iexact H12
      ipureintro
      refine (View.read_writes_full _ _ _ _ _).trans ?_
      sl_open_run
      rfl
    isplitl [H13]
    · iexists _
      isplitl [H13]
      · iexact H13
      ipureintro
      refine (View.read_writes_full _ _ _ _ _).trans ?_
      sl_open_run
      rfl
    isplitl [H14]
    · iexists _
      isplitl [H14]
      · iexact H14
      ipureintro
      refine (View.read_writes_full _ _ _ _ _).trans ?_
      sl_open_run
      rfl
    isplitl [H15]
    · iexists _
      iexact H15
    isplitl [H16]
    · iexists _
      isplitl [H16]
      · iexact H16
      ipureintro
      refine (View.read_writes_full _ _ _ _ _).trans ?_
      sl_open_run
      rfl
    isplitl [H17]
    · iexists _
      isplitl [H17]
      · iexact H17
      ipureintro
      refine (View.read_writes_full _ _ _ _ _).trans ?_
      sl_open_run
      rfl
    · iexists _
      isplitl [H18]
      · iexact H18
      ipureintro
      refine (View.read_writes_full _ _ _ _ _).trans ?_
      sl_open_run
      rfl
  iintro %acc HI
  unfold tripInv
  icases HI with ⟨H3, H6, H7, ⟨%g9, H9, %h9⟩, ⟨%g10, H10⟩, ⟨%g11, H11, %h11⟩, ⟨%g12, H12, %h12⟩, ⟨%g13, H13, %h13⟩, ⟨%g14, H14, %h14⟩, ⟨%g15, H15⟩, ⟨%g16, H16, %h16⟩, ⟨%g17, H17, %h17⟩, ⟨%g18, H18, %h18⟩⟩
  have eT : 2 * Scf.trips (k0_t1_loop i).lb (k0_t1_loop i).ub (k0_t1_loop i).st = (i 2).val := by
    have h := trips1 i; have h' : Scf.trips (k0_t1_loop i).lb (k0_t1_loop i).ub (k0_t1_loop i).st = (i 2).val / 2 := h
    rw [h']; omega
  rw [eT] at h9 h11 h12 h13 h14 h16 h17 h18
  have t9 := (readAt_w0 arg9.view g9 inb_S512x512_S512x512_0_0).trans h9
  have t14 := (readAt_w0 arg14.view g14 inb_S512x512_S512x512_0_0).trans h14
  have t11 := (readAt_w1 arg11.view g11 inb_S512x1_S512x1_0_0).trans h11
  have t12 := (readAt_w1 arg12.view g12 inb_S512x1_S512x1_0_0).trans h12
  have t13 := (readAt_w2 arg13.view g13 inb_S512x128_S512x128_0_0).trans h13
  have t16 := (readAt_w1 arg16.view g16 inb_S512x1_S512x1_0_0).trans h16
  have t17 := (readAt_w1 arg17.view g17 inb_S512x1_S512x1_0_0).trans h17
  have t18 := (readAt_w2 arg18.view g18 inb_S512x128_S512x128_0_0).trans h18
  have u4 := readAt_tile arg7.view f7 _ _ (off16_0 i) (k0_off16_inb i k0_h2)
  have u5 := readAt_tile arg7.view f7 _ _ (off17_0 i) (k0_off17_inb i k0_h2)
  sl_exec
  sl_step
  unfold bodyPost
  isplitl [H3]
  · iexact H3
  isplitl [H4]
  · iexact H4
  isplitl [H5]
  · iexact H5
  isplitl [H6]
  · iexact H6
  isplitl [H7]
  · iexact H7
  isplitl [H8]
  · unfold outs out0 out1 fin
    skip
    simp only [step_m, step_l, step_acc]
    sl_open_run
    try simp only [readCov_w0, readCov_w1, readCov_w2]
    iexact H8
  isplitl [H9]
  · iexists _
    iexact H9
  isplitl [H10]
  · iexists _
    iexact H10
  isplitl [H11]
  · iexists _
    iexact H11
  isplitl [H12]
  · iexists _
    iexact H12
  isplitl [H13]
  · iexists _
    iexact H13
  isplitl [H14]
  · iexists _
    iexact H14
  isplitl [H15]
  · iexists _
    iexact H15
  isplitl [H16]
  · iexists _
    iexact H16
  isplitl [H17]
  · iexists _
    iexact H17
  iexists _
  iexact H18

end Body

end Cert.Proof.Flash
end
-- ==== Proof.Run.lean ====
/-
  The run of the attention kernel, over any float values: the proof data of its pipeline, its body at every grid point, the
  launch, and what follows for the arguments and the semaphore counters.
-/
module

public import proofs.«01_k».proof.Proof.Body
public import Idealize.ShloMosaic.Lib.Claim

@[expose] public section

set_option maxRecDepth 16384

noncomputable section

namespace Cert.Proof.Flash

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-! ## The output window -/

/-- The output window's block after the body, from the contents of the input windows: its two column halves. -/
def outW (KN : S1x16384x256.Idx → Elt F .bf16) (X4 : S1x512x256.Idx → Elt F .f32) (X5 : S1x512x128.Idx → Elt F .f32)
    (KR : S1x16384x128.Idx → Elt F .bf16) (VV : S1x16384x256.Idx → Elt F .bf16) (n : ℕ) : Vec F S1x512x256 .bf16 :=
  View.canon (outs KN X4 X5 KR VV n)

/-- The two halves cover the window. -/
theorem outs_cover (KN : S1x16384x256.Idx → Elt F .bf16) (X4 : S1x512x256.Idx → Elt F .f32) (X5 : S1x512x128.Idx → Elt F .f32)
    (KR : S1x16384x128.Idx → Elt F .bf16) (VV : S1x16384x256.Idx → Elt F .bf16) (n : ℕ) (y : S1x512x256.Idx) :
    ∃ pc ∈ outs KN X4 X5 KR VV n, y ∈ pc.1.set :=
  View.cover_of_tiled (outs KN X4 X5 KR VV n) S1x512x128.size (by rfl) y

/-! ## The proof data -/

/-- The arrays as the region finds them; after the body each input's block where it was, the output's block computed from
    the inputs'; the scratch buffers at any contents between points; nothing owed; the array that two input windows read
    held by each at its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outW (iblk m c 0 t) (iblk m c 1 t) (iblk m c 2 t) (iblk m c 3 t) (iblk m c 4 t) (grid0.coords t 2).val
  Φ _ := Pipeline.ΦA spec0 c
  q := Pipeline.shareOf spec0
  owed _ := 0

/-- The array of a window before the call. -/
theorem A_eq (c : Dev nD) (w : Fin cfg0.W) : (dats m 0 c).A w = V m c (Pipeline.arrRef spec0 w) := by
  dsimp only [dats]

/-- What a window holds after a step. -/
theorem after_0 (c : Dev nD) (t : Fin cfg0.N) : (dats m 0 c).after 0 t = iblk m c 0 t := by dsimp only [dats]
/-- What a window holds after a step. -/
theorem after_1 (c : Dev nD) (t : Fin cfg0.N) : (dats m 0 c).after 1 t = iblk m c 1 t := by dsimp only [dats]
/-- What a window holds after a step. -/
theorem after_2 (c : Dev nD) (t : Fin cfg0.N) : (dats m 0 c).after 2 t = iblk m c 2 t := by dsimp only [dats]
/-- What a window holds after a step. -/
theorem after_3 (c : Dev nD) (t : Fin cfg0.N) : (dats m 0 c).after 3 t = iblk m c 3 t := by dsimp only [dats]
/-- What a window holds after a step. -/
theorem after_4 (c : Dev nD) (t : Fin cfg0.N) : (dats m 0 c).after 4 t = iblk m c 4 t := by dsimp only [dats]
/-- What a window holds after a step. -/
theorem after_5 (c : Dev nD) (t : Fin cfg0.N) : (dats m 0 c).after 5 t
    = outW (iblk m c 0 t) (iblk m c 1 t) (iblk m c 2 t) (iblk m c 3 t) (iblk m c 4 t) (grid0.coords t 2).val := by dsimp only [dats]

/-- What an input window holds before a step. -/
theorem before_0 (c : Dev nD) (t : Fin cfg0.N) (d) : (dats m 0 c).before 0 t d = iblk m c 0 t :=
  before0_0_of m (dats m 0 c) (A_eq m c 0) (after_0 m c) t d
/-- What an input window holds before a step. -/
theorem before_1 (c : Dev nD) (t : Fin cfg0.N) (d) : (dats m 0 c).before 1 t d = iblk m c 1 t :=
  before0_1_of m (dats m 0 c) (A_eq m c 1) (after_1 m c) t d
/-- What an input window holds before a step. -/
theorem before_2 (c : Dev nD) (t : Fin cfg0.N) (d) : (dats m 0 c).before 2 t d = iblk m c 2 t :=
  before0_2_of m (dats m 0 c) (A_eq m c 2) (after_2 m c) t d
/-- What an input window holds before a step. -/
theorem before_3 (c : Dev nD) (t : Fin cfg0.N) (d) : (dats m 0 c).before 3 t d = iblk m c 3 t :=
  before0_3_of m (dats m 0 c) (A_eq m c 3) (after_3 m c) t d
/-- What an input window holds before a step. -/
theorem before_4 (c : Dev nD) (t : Fin cfg0.N) (d) : (dats m 0 c).before 4 t d = iblk m c 4 t :=
  before0_4_of m (dats m 0 c) (A_eq m c 4) (after_4 m c) t d

/-! ## The body at a point -/

section Any
variable (c : Dev nD) (i : grid0.Coords) (arg3 : Memref sig .tc .vmem S1x16384x256 .bf16) (harg3 : arg3.IsWhole)
  (arg4 : Memref sig .tc .vmem S1x512x256 .f32) (harg4 : arg4.IsWhole)
  (arg5 : Memref sig .tc .vmem S1x512x128 .f32) (harg5 : arg5.IsWhole)
  (arg6 : Memref sig .tc .vmem S1x16384x128 .bf16) (harg6 : arg6.IsWhole)
  (arg7 : Memref sig .tc .vmem S1x16384x256 .bf16) (harg7 : arg7.IsWhole)
  (arg8 : Memref sig .tc .vmem S1x512x256 .bf16) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x128 .f32) (harg13 : arg13.IsWhole)
  (arg14 : Memref sig .tc .vmem S512x512 .f32) (harg14 : arg14.IsWhole)
  (arg15 : Memref sig .tc .vmem S512x512 .f32) (harg15 : arg15.IsWhole)
  (arg16 : Memref sig .tc .vmem S512x1 .f32) (harg16 : arg16.IsWhole)
  (arg17 : Memref sig .tc .vmem S512x1 .f32) (harg17 : arg17.IsWhole)
  (arg18 : Memref sig .tc .vmem S512x128 .f32) (harg18 : arg18.IsWhole)

/-- The body, whichever the parity of its query block. -/
theorem body_any (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18)
    ⊢ wp frame (wpE (defs₀ (F := F)) 𝒱₀ (c : Thread nD τ) none) Set.univ
        (cc0_mla_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => bodyPost c i arg3 arg4 arg5 arg6 arg7 arg8 arg9 arg10 arg11 arg12 arg13 arg14 arg15 arg16 arg17 arg18 f3 f4 f5 f6 f7 f8) := by
  rcases Nat.mod_two_eq_zero_or_one (i 2).val with hp | hp
  · exact body_even c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hp f3 f4 f5 f6 f7 f8 f9 f10 f11 f12 f13 f14 f15 f16 f17 f18
  · exact body_odd c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hp f3 f4 f5 f6 f7 f8 f9 f10 f11 f12 f13 f14 f15 f16 f17 f18
end Any

section Body
variable (c : Dev nD) (i : grid0.Coords) (arg3 : Memref sig .tc .vmem S1x16384x256 .bf16) (harg3 : arg3.IsWhole)
  (arg4 : Memref sig .tc .vmem S1x512x256 .f32) (harg4 : arg4.IsWhole)
  (arg5 : Memref sig .tc .vmem S1x512x128 .f32) (harg5 : arg5.IsWhole)
  (arg6 : Memref sig .tc .vmem S1x16384x128 .bf16) (harg6 : arg6.IsWhole)
  (arg7 : Memref sig .tc .vmem S1x16384x256 .bf16) (harg7 : arg7.IsWhole)
  (arg8 : Memref sig .tc .vmem S1x512x256 .bf16) (harg8 : arg8.IsWhole)

/-- The scratch buffers, each whole at some contents. -/
def scr (c : Dev nD) : sProp 𝕄 := Pipeline.scopedRest (Ix := Unit) (Name := ℕ) (U := UR sig nD τ) (Lvl := ℕ) (Val := Elt F) spec0 c

/-- A whole scratch buffer's own elements are all of it. -/
theorem pt_whole (c : Dev nD) (b : Ref sig .tc) (f : Buf (Elt F) ((c : Thread nD τ).loc b)) :
    (pt c (Memref.whole b) f : sProp 𝕄) = iprop(((c : Thread nD τ).loc b) ↦{fullShare} f) := by
  unfold pt
  rw [show (Memref.whole b).view.set = Finset.univ from View.set_whole _]

/-- A whole buffer, as a view of it. -/
theorem pt_of (c : Dev nD) (b : Ref sig .tc) (f : Buf (Elt F) ((c : Thread nD τ).loc b)) :
    (iprop(((c : Thread nD τ).loc b) ↦{fullShare} f) : sProp 𝕄) ⊢ pt c (Memref.whole b) f := by rw [pt_whole]

/-- A whole buffer with some contents, as a view of it. -/
theorem ex_of (c : Dev nD) (b : Ref sig .tc) : (iprop(∃ f : Buf (Elt F) ((c : Thread nD τ).loc b), pt c (Memref.whole b) f) : sProp 𝕄)
    ⊢ iprop(∃ f : Buf (Elt F) ((c : Thread nD τ).loc b), ((c : Thread nD τ).loc b) ↦{fullShare} f) := by
  simp only [pt_whole]; exact .rfl

/-- The body on staging buffers whose contents read `x3 … x7`, from any contents of the output's buffer and of the scratch:
    the inputs' are as they were, the output's read what `outW` says. -/
theorem sound_kernel (x3 : S1x16384x256.Idx → Elt F .bf16) (x4 : S1x512x256.Idx → Elt F .f32) (x5 : S1x512x128.Idx → Elt F .f32)
    (x6 : S1x16384x128.Idx → Elt F .bf16) (x7 : S1x16384x256.Idx → Elt F .bf16) (K : PUnit → sProp 𝕄) :
    iprop(owns (c : Thread nD τ) arg3 fullShare x3 ∗ owns (c : Thread nD τ) arg4 fullShare x4 ∗ owns (c : Thread nD τ) arg5 fullShare x5
        ∗ owns (c : Thread nD τ) arg6 fullShare x6 ∗ owns (c : Thread nD τ) arg7 fullShare x7 ∗ (∃ d, owns (c : Thread nD τ) arg8 fullShare d)
        ∗ scr c
        ∗ (iprop(owns (c : Thread nD τ) arg3 fullShare x3 ∗ owns (c : Thread nD τ) arg4 fullShare x4 ∗ owns (c : Thread nD τ) arg5 fullShare x5
          ∗ owns (c : Thread nD τ) arg6 fullShare x6 ∗ owns (c : Thread nD τ) arg7 fullShare x7
          ∗ owns (c : Thread nD τ) arg8 fullShare (outW x3 x4 x5 x6 x7 (i 2).val) ∗ scr c) -∗ K ⟨⟩))
      ⊢ wp frame (wpE (defs₀ (F := F)) 𝒱₀ (c : Thread nD τ) none) Set.univ
        (cc0_mla_prompt (F := F) i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)) K := by
  unfold scr
  rw [scopedRest0_eq]
  unfold owns
  iintro ⟨⟨%f3, %e3, H3⟩, ⟨%f4, %e4, H4⟩, ⟨%f5, %e5, H5⟩, ⟨%f6, %e6, H6⟩, ⟨%f7, %e7, H7⟩, ⟨%d8, %f8, -, H8⟩, ⟨⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩, Hk⟩
  subst e3 e4 e5 e6 e7
  have key := body_any (F := F) c i arg3 harg3 arg4 harg4 arg5 harg5 arg6 harg6 arg7 harg7 arg8 harg8 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) f3 f4 f5 f6 f7 f8 f9 f10 f11 f12 f13 f14 f15 f16 f17 f18
  unfold bodyPost at key
  iapply (Idealize.SL.Sem.wp_wand_r Idealize.ShloMosaic.frame (wpE (defs₀ (F := F)) 𝒱₀ (c : Thread nD τ) none) Set.univ)
  isplitl [H3 H4 H5 H6 H7 H8 H9 H10 H11 H12 H13 H14 H15 H16 H17 H18]
  · iapply key
    isplitl [H3]; · iexact H3
    isplitl [H4]; · iexact H4
    isplitl [H5]; · iexact H5
    isplitl [H6]; · iexact H6
    isplitl [H7]; · iexact H7
    isplitl [H8]; · iexact H8
    isplitl [H9]; · iapply (pt_of c cc0_scratch0 f9); iexact H9
    isplitl [H10]; · iapply (pt_of c cc0_scratch1 f10); iexact H10
    isplitl [H11]; · iapply (pt_of c cc0_scratch2 f11); iexact H11
    isplitl [H12]; · iapply (pt_of c cc0_scratch3 f12); iexact H12
    isplitl [H13]; · iapply (pt_of c cc0_scratch4 f13); iexact H13
    isplitl [H14]; · iapply (pt_of c cc0_scratch5 f14); iexact H14
    isplitl [H15]; · iapply (pt_of c cc0_scratch6 f15); iexact H15
    isplitl [H16]; · iapply (pt_of c cc0_scratch7 f16); iexact H16
    isplitl [H17]; · iapply (pt_of c cc0_scratch8 f17); iexact H17
    iapply (pt_of c cc0_scratch9 f18); iexact H18
  iintro %u ⟨H3, H4, H5, H6, H7, H8, H9, H10, H11, H12, H13, H14, H15, H16, H17, H18⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (outs_cover _ _ _ _ _ _)
  isplitl [H9]; · iapply (ex_of c cc0_scratch0); iexact H9
  isplitl [H10]; · iapply (ex_of c cc0_scratch1); iexact H10
  isplitl [H11]; · iapply (ex_of c cc0_scratch2); iexact H11
  isplitl [H12]; · iapply (ex_of c cc0_scratch3); iexact H12
  isplitl [H13]; · iapply (ex_of c cc0_scratch4); iexact H13
  isplitl [H14]; · iapply (ex_of c cc0_scratch5); iexact H14
  isplitl [H15]; · iapply (ex_of c cc0_scratch6); iexact H15
  isplitl [H16]; · iapply (ex_of c cc0_scratch7); iexact H16
  isplitl [H17]; · iapply (ex_of c cc0_scratch8); iexact H17
  iapply (ex_of c cc0_scratch9); iexact H18
end Body

/-- What the body is called with at point `t`, -/
def ptPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def ptPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point of the grid. -/
theorem sound_body (c : Dev nD) (t : Fin cfg0.N) :
    ptPre m c t ⊢ wp frame (wpE (defs₀ (F := F)) 𝒱₀ (c : Thread nD τ) none) Set.univ (bodyAt0 t) (fun _ => ptPost m c t) := by
  unfold ptPre ptPost bodyAt0
  simp only [before_0, before_1, before_2, before_3, before_4]
  rw [show (dats m 0 c).Φ t.succ = iprop(scr c ∗ ∃ r, prngReg c r) from rfl,
    show (dats m 0 c).Φ t.castSucc = iprop(scr c ∗ ∃ r, prngReg c r) from rfl,
    show (dats m 0 c).owesAt () t.succ = (dats m 0 c).owesAt () t.castSucc from rfl,
    after_0, after_1, after_2, after_3, after_4, after_5]
  iintro ⟨⟨HS, HP⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  iexact H5

/-- The body that a grid step runs. -/
theorem defs₀_row (t : Fin cfg0.N) :
    defs₀ (F := F) .tc cfg0.body (cfg0.bodyArgs t (cfg0.slots t)) = bodyAt0 t := by
  unfold defs₀; rw [Defs.onTc_tc]

/-- Every grid step keeps its part of the call's specification. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run -/

set_option backward.isDefEq.respectTransparency.types false in
/-- Every run of @main ends, with each array of the pipeline at what the proof data say, every other array as the region
    found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The arguments end unchanged and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Flash
end
-- ==== Proof.KernelFrame.lean ====
/-
  The frames of the kernel's two programs. Their texts are one, but that the ideal one reads the softmax scale by its name;
  so the run at machine words, with that constant read as the word it is printed with, is the run of the printed kernel.
-/
module

public import proofs.«01_k».proof.Proof.Run
public import proofs.«01_k».proof.Proof.Gen.Kernel
public import proofs.«01_k».proof.Defs

@[expose] public section

noncomputable section

namespace Cert.Proof.Flash

open Idealize.ShloMosaic Idealize.SL.Sem

/-- A named constant read as the word it was printed with. -/
@[implicit_reducible] def printedWords : Named Bits where
  named _ _ {φ} bits := FloatOps.ofBits φ bits

set_option smartUnfolding false in
/-- The kernel as printed: it ends, its arguments as they were, every counter at zero. -/
theorem frame_kernel : Cert.quiescent_Kernel (hKernel := Cert.Kernel.Gen.facts) := fun m ρ _ =>
  letI := printedWords
  (θ_run (Cert.KernelIdeal.defs (F := Bits)) _ _).mono (fun _ h => h) (run_frame (F := Bits) m ρ)

/-- The ideal kernel: the same. -/
theorem frame_kernelIdeal : Cert.quiescent_KernelIdeal (hKernelIdeal := Cert.KernelIdeal.Gen.facts) := fun m ρ _ =>
  run_frame (F := Ideal) m ρ

/-- The scale named in the ideal kernel is the one its word is printed for. -/
theorem preserves : Cert.preserves_Kernel_KernelIdeal :=
  IdealRules.named_const.statement Cert.KernelIdeal.κ "scale_log2e" .f32 0x3DD53B94#32 _ rfl

end Cert.Proof.Flash
end
-- ==== Proof.RefFrame.lean ====
/-
  The reference's frame, read off its run.
-/
module

public import proofs.«01_k».proof.Defs
public import proofs.«01_k».proof.Proof.Gen.ReferenceIdeal.Run
public import Idealize.ShloMosaic.Lib.Quiescent

@[expose] public section

noncomputable section

namespace Cert.Proof.Flash

open Idealize.ShloMosaic Idealize.SL.Sem

/-- The reference ends with its arguments as they were; it declares no counter, so every counter reads zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof.Flash

end
-- ==== Proof.Softmax.lean ====
/-
  The softmax of a row over the extended reals, by running maxima. Nothing here speaks of a program: a row of scores
  `s : ℕ → EReal` and a column of values `v : ℕ → EReal`, of which the first `n` keys are taken.
-/
module

public import Idealize.ShloMosaic.PureOps.Ideal
public import Mathlib.Data.EReal.Operations
public import Mathlib.Data.EReal.Inv

@[expose] public section

noncomputable section

namespace Cert.Proof.Flash

open Idealize.ShloMosaic Finset

/-! ### A real factor distributes -/

/-- A nonnegative real factor goes into a sum of extended reals. -/
theorem coe_mul_add {a : ℝ} (ha : 0 ≤ a) (x y : EReal) : (a : EReal) * (x + y) = a * x + a * y :=
  EReal.left_distrib_of_nonneg_of_ne_top (by exact_mod_cast ha) (EReal.coe_ne_top a) x y

/-- The same for a sum over a finite set. -/
theorem coe_mul_sum {ι : Type*} {a : ℝ} (ha : 0 ≤ a) (S : Finset ι) (f : ι → EReal) :
    (a : EReal) * ∑ i ∈ S, f i = ∑ i ∈ S, (a : EReal) * f i := by
  classical
  induction S using Finset.induction_on with
  | empty => simp
  | insert i S hi ih => rw [Finset.sum_insert hi, Finset.sum_insert hi, coe_mul_add ha, ih]

/-- A nonnegative real factor goes into a difference. -/
theorem sub_mul_coe {a : ℝ} (ha : 0 < a) (x y : EReal) : (x - y) * a = x * a - y * a := by
  have h1 : (a : EReal) * (x + -y) = a * x + a * -y := coe_mul_add ha.le x (-y)
  rw [sub_eq_add_neg, mul_comm, h1, mul_neg, ← sub_eq_add_neg, mul_comm, mul_comm (a : EReal) y]

/-! ### Powers of two -/

/-- Rescaling a weight from one maximum to a later one. -/
theorem exp2_shift {x m m' : EReal} (hx : x ≤ m) (hm : m ≤ m') :
    Ideal.exp2 (m - m') * Ideal.exp2 (x - m) = Ideal.exp2 (x - m') := by
  induction m' using EReal.rec with
  | bot =>
    obtain rfl : m = ⊥ := le_bot_iff.mp hm
    obtain rfl : x = ⊥ := le_bot_iff.mp hx
    simp
  | top => simp
  | coe m' =>
    induction m using EReal.rec with
    | top => exact absurd hm (by simp)
    | bot =>
      obtain rfl : x = ⊥ := le_bot_iff.mp hx
      simp
    | coe m =>
      induction x using EReal.rec with
      | top => exact absurd hx (by simp)
      | bot => simp
      | coe x =>
        rw [← EReal.coe_sub, ← EReal.coe_sub, ← EReal.coe_sub, Ideal.exp2_coe, Ideal.exp2_coe, Ideal.exp2_coe,
          ← EReal.coe_mul]
        congr 1
        show (2 : ℝ) ^ (m - m') * (2 : ℝ) ^ (x - m) = (2 : ℝ) ^ (x - m')
        rw [← Real.rpow_add two_pos]
        congr 1
        ring

/-- The factor of a rescaling is a nonnegative real. -/
theorem exp2_sub_real {m m' : EReal} (hm : m ≤ m') : ∃ a : ℝ, 0 ≤ a ∧ Ideal.exp2 (m - m') = a := by
  induction m' using EReal.rec with
  | bot =>
    obtain rfl : m = ⊥ := le_bot_iff.mp hm
    exact ⟨0, le_rfl, by simp⟩
  | top => exact ⟨0, le_rfl, by simp⟩
  | coe m' =>
    induction m using EReal.rec with
    | top => exact absurd hm (by simp)
    | bot => exact ⟨0, le_rfl, by simp⟩
    | coe m =>
      exact ⟨(2 : ℝ) ^ (m - m'), Real.rpow_nonneg two_pos.le _, by rw [← EReal.coe_sub, Ideal.exp2_coe]; rfl⟩

/-- A power of two of `x / log 2` is the exponential of `x`. -/
theorem exp2_log (x : EReal) : Ideal.exp2 (x * (((Real.log 2)⁻¹ : ℝ) : EReal)) = Ideal.exp x := by
  have hl : 0 < Real.log 2 := Real.log_pos (by norm_num)
  have hi : 0 < (Real.log 2)⁻¹ := inv_pos.mpr hl
  induction x using EReal.rec with
  | bot => rw [EReal.bot_mul_coe_of_pos hi]; simp
  | top => rw [EReal.top_mul_coe_of_pos hi]; simp
  | coe x =>
    rw [← EReal.coe_mul, Ideal.exp2_coe, Ideal.exp_coe]
    congr 1
    show (2 : ℝ) ^ (x * (Real.log 2)⁻¹) = Real.exp x
    rw [Real.rpow_def_of_pos two_pos]
    congr 1
    field_simp

/-! ### The row's maximum, its weights and its weighted sum -/

/-- The maximum of the first `n` scores. -/
def mx (s : ℕ → EReal) (n : ℕ) : EReal := (range n).sup s
/-- The sum of the first `n` weights. -/
def den (s : ℕ → EReal) (n : ℕ) : EReal := ∑ k ∈ range n, Ideal.exp2 (s k - mx s n)
/-- The weighted sum of the first `n` values. -/
def num (s v : ℕ → EReal) (n : ℕ) : EReal := ∑ k ∈ range n, Ideal.exp2 (s k - mx s n) * v k

/-- The maximum of no scores. -/
theorem mx_zero (s : ℕ → EReal) : mx s 0 = ⊥ := by simp [mx]
/-- The sum of no weights. -/
theorem den_zero (s : ℕ → EReal) : den s 0 = 0 := by simp [den]
/-- The weighted sum of no values. -/
theorem num_zero (s v : ℕ → EReal) : num s v 0 = 0 := by simp [num]

/-- Each score is at most the maximum. -/
theorem le_mx {s : ℕ → EReal} {n k : ℕ} (h : k < n) : s k ≤ mx s n := Finset.le_sup (f := s) (mem_range.mpr h)

/-- The maximum over a further tile of `d` keys, the tile's maximum taken by itself. -/
theorem mx_add (s : ℕ → EReal) (n d : ℕ) :
    mx s (n + d) = max (mx s n) ((univ : Finset (Fin d)).fold max ⊥ fun k : Fin d => s (n + k)) := by
  apply le_antisymm
  · refine Finset.sup_le fun k hk => ?_
    rcases lt_or_ge k n with h | h
    · exact le_max_of_le_left (le_mx h)
    · refine le_max_of_le_right ((Finset.le_fold_max _).mpr (.inr ⟨⟨k - n, ?_⟩, mem_univ _, ?_⟩))
      · have := mem_range.mp hk; omega
      · show s k ≤ s (n + (k - n))
        rw [Nat.add_sub_cancel' h]
  · refine max_le (Finset.sup_le fun k hk => le_mx (by have := mem_range.mp hk; omega)) ?_
    exact (Finset.fold_max_le _).mpr ⟨bot_le, fun k _ => le_mx (by omega)⟩

/-- More scores do not lower the maximum. -/
theorem mx_le_add (s : ℕ → EReal) (n d : ℕ) : mx s n ≤ mx s (n + d) := by
  rw [mx_add]; exact le_max_left _ _

/-- The sum of the weights over a further tile: what was there rescaled, and the tile's weights. -/
theorem den_add (s : ℕ → EReal) (n d : ℕ) :
    den s (n + d) = Ideal.exp2 (mx s n - mx s (n + d)) * den s n
      + ∑ k : Fin d, Ideal.exp2 (s (n + k) - mx s (n + d)) := by
  obtain ⟨a, ha, he⟩ := exp2_sub_real (mx_le_add s n d)
  unfold den
  rw [Finset.sum_range_add, ← Fin.sum_univ_eq_sum_range (fun k => Ideal.exp2 (s (n + k) - mx s (n + d))) d]
  congr 1
  rw [he, coe_mul_sum ha, ← he]
  exact Finset.sum_congr rfl fun k hk => (exp2_shift (le_mx (mem_range.mp hk)) (mx_le_add s n d)).symm

/-- The weighted sum over a further tile: what was there rescaled, and the tile's weighted sum. -/
theorem num_add (s v : ℕ → EReal) (n d : ℕ) :
    num s v (n + d) = Ideal.exp2 (mx s n - mx s (n + d)) * num s v n
      + ∑ k : Fin d, Ideal.exp2 (s (n + k) - mx s (n + d)) * v (n + k) := by
  obtain ⟨a, ha, he⟩ := exp2_sub_real (mx_le_add s n d)
  unfold num
  rw [Finset.sum_range_add, ← Fin.sum_univ_eq_sum_range (fun k => Ideal.exp2 (s (n + k) - mx s (n + d)) * v (n + k)) d]
  congr 1
  rw [he, coe_mul_sum ha, ← he]
  refine Finset.sum_congr rfl fun k hk => ?_
  rw [← mul_assoc, exp2_shift (le_mx (mem_range.mp hk)) (mx_le_add s n d)]

/-! ### Keys that the mask hides add nothing -/

/-- Hidden keys do not change the maximum. -/
theorem mx_hidden {s : ℕ → EReal} {n N : ℕ} (h : n ≤ N) (hs : ∀ k, n ≤ k → k < N → s k = ⊥) : mx s N = mx s n := by
  apply le_antisymm
  · refine Finset.sup_le fun k hk => ?_
    rcases lt_or_ge k n with h' | h'
    · exact le_mx h'
    · rw [hs k h' (mem_range.mp hk)]; exact bot_le
  · exact Finset.sup_mono (range_mono h)

/-- A hidden key has weight zero. -/
theorem exp2_hidden (m : EReal) : Ideal.exp2 (⊥ - m) = 0 := by
  rw [sub_eq_add_neg, EReal.bot_add]; rfl

/-- Hidden keys do not change the sum of the weights. -/
theorem den_hidden {s : ℕ → EReal} {n N : ℕ} (h : n ≤ N) (hs : ∀ k, n ≤ k → k < N → s k = ⊥) : den s N = den s n := by
  unfold den
  rw [mx_hidden h hs]
  refine (Finset.sum_subset (range_mono h) fun k hk hk' => ?_).symm
  rw [hs k (by simpa using hk') (mem_range.mp hk), exp2_hidden]

/-- Hidden keys do not change the weighted sum. -/
theorem num_hidden {s : ℕ → EReal} (v : ℕ → EReal) {n N : ℕ} (h : n ≤ N) (hs : ∀ k, n ≤ k → k < N → s k = ⊥) :
    num s v N = num s v n := by
  unfold num
  rw [mx_hidden h hs]
  refine (Finset.sum_subset (range_mono h) fun k hk hk' => ?_).symm
  rw [hs k (by simpa using hk') (mem_range.mp hk), exp2_hidden, zero_mul]

/-! ### In exponentials -/

/-- The maximum of scores divided by `log 2`. -/
theorem mx_scaled (r : ℕ → EReal) (n : ℕ) {a : ℝ} (ha : 0 < a) : mx (fun k => r k * a) n = mx r n * a := by
  have hmono : Monotone fun x : EReal => x * a := fun x y h => mul_le_mul_of_nonneg_right h (by exact_mod_cast ha.le)
  exact (Finset.comp_sup_eq_sup_comp (s := range n) (f := r) (fun x : EReal => x * a)
    (fun x y => hmono.map_sup x y) (EReal.bot_mul_coe_of_pos ha)).symm

/-- A weight in powers of two is the weight in exponentials. -/
theorem weight_scaled (r : ℕ → EReal) (n k : ℕ) :
    Ideal.exp2 (r k * (((Real.log 2)⁻¹ : ℝ) : EReal) - mx (fun k => r k * (((Real.log 2)⁻¹ : ℝ) : EReal)) n)
      = Ideal.exp (r k - mx r n) := by
  have hi : 0 < (Real.log 2)⁻¹ := inv_pos.mpr (Real.log_pos (by norm_num))
  rw [mx_scaled r n hi, ← sub_mul_coe hi, exp2_log]

/-- The maximum as a fold over `Fin n`. -/
theorem mx_fold (s : ℕ → EReal) (n : ℕ) : mx s n = (univ : Finset (Fin n)).fold max ⊥ fun k : Fin n => s k := by
  have h := mx_add s 0 n
  rw [Nat.zero_add, mx_zero, max_eq_right bot_le] at h
  rw [h]
  simp only [Nat.zero_add]

/-- The quotient that a row's running softmax ends with, in exponentials. -/
theorem quotient_scaled (r v : ℕ → EReal) (n : ℕ) :
    Ideal.div (num (fun k => r k * (((Real.log 2)⁻¹ : ℝ) : EReal)) v n) (den (fun k => r k * (((Real.log 2)⁻¹ : ℝ) : EReal)) n)
      = Ideal.div (∑ k : Fin n, Ideal.exp (r k - mx r n) * v k) (∑ k : Fin n, Ideal.exp (r k - mx r n)) := by
  unfold num den
  rw [Fin.sum_univ_eq_sum_range (fun k => Ideal.exp (r k - mx r n) * v k) n,
    Fin.sum_univ_eq_sum_range (fun k => Ideal.exp (r k - mx r n)) n]
  simp only [weight_scaled]

end Cert.Proof.Flash

end
-- ==== Proof.Words.lean ====
/-
  The constants the two programs print, as extended reals, and their comparison of small integers.
-/
module

public import proofs.«01_k».proof.Proof.Softmax
public import Idealize.ShloMosaic.Lib.Pointwise

@[expose] public section

noncomputable section

namespace Cert.Proof.Flash

open Idealize.ShloMosaic

/-- The word of minus infinity is the least extended real. -/
theorem ofBits_bot : Ideal.ofBits .f32 0xFF800000#32 = ⊥ := by
  simp [Ideal.ofBits, Ideal.ieee]

/-- The word of the scale is its exact value. -/
theorem ofBits_scale : Ideal.ofBits .f32 0x3D93CD3A#32 = ((4843165 / 67108864 : ℝ) : EReal) := by
  simp [Ideal.ofBits, Ideal.ieee, -EReal.coe_mul]; norm_num

/-- Signed comparison of two small naturals' words is that of the naturals. -/
theorem sle_small (a b : ℕ) (ha : a < 2 ^ 20) (hb : b < 2 ^ 20) :
    (IntOp.cmpi .sle (BitVec.ofNat 32 a) (BitVec.ofNat 32 b) = 1#1) ↔ a ≤ b := by
  have h1 : (BitVec.ofNat 32 a).toInt = a := by
    rw [BitVec.toInt_ofNat']; simp only [Int.bmod]; omega
  have h2 : (BitVec.ofNat 32 b).toInt = b := by
    rw [BitVec.toInt_ofNat']; simp only [Int.bmod]; omega
  simp only [IntOp.cmpi, BitVec.sle, h1, h2, Nat.cast_le]
  by_cases h : a ≤ b <;> simp [h]

/-- Equality of two small naturals' words is that of the naturals. -/
theorem eq_small (a b : ℕ) (ha : a < 2 ^ 20) (hb : b < 2 ^ 20) :
    (IntOp.cmpi .eq (BitVec.ofNat 32 a) (BitVec.ofNat 32 b) = 1#1) ↔ a = b := by
  have : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · subst h; simp [IntOp.cmpi]
  · have h' := mt this.mp h
    simp only [IntOp.cmpi, beq_eq_false_iff_ne.mpr h', h, iff_false]; decide

end Cert.Proof.Flash
end
-- ==== Proof.Block.lean ====
/-
  What one tile of keys does to a head's running state, read at an element, over the extended reals.
-/
module

public import proofs.«01_k».proof.Proof.Body
public import proofs.«01_k».proof.Proof.Words

@[expose] public section

set_option maxRecDepth 16384

noncomputable section

namespace Cert.Proof.Flash

open Cert.KernelIdeal Cert.KernelIdeal.Gen
open Idealize.ShloMosaic Idealize.ShloMosaic.TcCoe

/-- The scale with the base-two logarithm's factor. -/
def kap : ℝ := (4843165 / 67108864) * (Real.log 2)⁻¹

/-- The factor of the scores is positive. -/
theorem kap_pos : 0 < kap := mul_pos (by norm_num) (inv_pos.mpr (Real.log_pos (by norm_num)))

/-- The kernel's named constant is that number. -/
theorem named_kap : (Named.named κ "scale_log2e" 0x3DD53B94#32 : Ideal .f32) = (kap : EReal) := by
  rfl

/-- The new maximum of a row. -/
theorem m_apply (s : FVec Ideal S512x512 .f32) (x : FVec Ideal S512x1 .f32) (r : Fin 512) :
    k0_pay8 (F := Ideal) s x (ix2 r 0) = max (x (ix2 r 0)) ((Finset.univ : Finset (Fin 512)).fold max ⊥ fun k => s (ix2 r k)) := by
  pointwise [k0_pay8, k0_pay5]
  rw [ofBits_bot]

/-- The new normaliser of a row. -/
theorem l_apply (s : FVec Ideal S512x512 .f32) (x l : FVec Ideal S512x1 .f32) (r : Fin 512) :
    k0_pay9 (F := Ideal) s x l (ix2 r 0) = Ideal.exp2 (x (ix2 r 0) - k0_pay8 (F := Ideal) s x (ix2 r 0)) * l (ix2 r 0)
      + ∑ k : Fin 512, Ideal.exp2 (s (ix2 r k) - k0_pay8 (F := Ideal) s x (ix2 r 0)) := by
  pointwise [k0_pay9, k0_pay8, k0_pay7, k0_pay6, k0_pay5]
  rfl

/-- The new weighted sum of a row, at a value column. -/
theorem acc_apply (s : FVec Ideal S512x512 .f32) (v : FVec Ideal S1x512x128 .bf16) (x : FVec Ideal S512x1 .f32)
    (a : FVec Ideal S512x128 .f32) (r : Fin 512) (d : Fin 128) :
    k0_pay10 (F := Ideal) s v x a (ix2 r d) = Ideal.exp2 (x (ix2 r 0) - k0_pay8 (F := Ideal) s x (ix2 r 0)) * a (ix2 r d)
      + ∑ k : Fin 512, Ideal.exp2 (s (ix2 r k) - k0_pay8 (F := Ideal) s x (ix2 r 0)) * v (ix3 0 k d) := by
  pointwise [k0_pay10, k0_pay8, k0_pay7, k0_pay6, k0_pay5]
  rfl

/-- Before any block, the row maximum is minus infinity. -/
theorem init_m (r : Fin 512) : (St.init (F := Ideal)).m (ix2 r 0) = ⊥ := by
  simp only [St.init]
  pointwise [k0_pay97]
  exact ofBits_bot
/-- Before any block, the sum of the weights is zero. -/
theorem init_l (r : Fin 512) : (St.init (F := Ideal)).l (ix2 r 0) = 0 := by
  simp only [St.init]
  pointwise [k0_pay98]
/-- Before any block, the weighted sum is zero. -/
theorem init_acc (r : Fin 512) (d : Fin 128) : (St.init (F := Ideal)).acc (ix2 r d) = 0 := by
  simp only [St.init]
  pointwise [k0_pay99]

/-! ## The small integers -/

/-- The kernel's floored division by 64 of a word `x`. -/
def floor64 (u : ArithUnit) (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi u x 64#32) 0#32))
    (IntOp.subi (IntOp.divsi u x 64#32) 1#32)
    (IntOp.divsi u x 64#32)

/-- The kernel's division by 64, at every position of a tile. -/
theorem floor64_table : ∀ a : Fin 8, ∀ b : Fin 64, floor64 .vector (BitVec.ofNat 32 (64 * a.val + b.val)) = BitVec.ofNat 32 a.val := by
  decide +kernel

/-- It is the quotient, below 512. -/
theorem floor64_eq (n : ℕ) (h : n < 512) : floor64 .vector (BitVec.ofNat 32 n) = BitVec.ofNat 32 (n / 64) := by
  have := floor64_table ⟨n / 64, by omega⟩ ⟨n % 64, by omega⟩
  simpa only [Nat.div_add_mod] using this

/-- A query of the diagonal tile sees the keys of its chunk and of those before. -/
theorem mask_apply (r k : Fin 512) : MASK (ix2 r k) = 1#1 ↔ k.val / 64 ≤ r.val / 64 := by
  pointwise [MASK, k0_pay96, k0_pay88, k0_pay91, k0_pay89, k0_pay90]
  rw [← floor64.eq_1, ← floor64.eq_1, floor64_eq _ k.isLt, floor64_eq _ r.isLt]
  exact sle_small _ _ (by omega) (by omega)

/-- The masked tile. -/
theorem masked_apply (s : FVec Ideal S512x512 .f32) (r k : Fin 512) :
    k0_pay65 (F := Ideal) MASK s (ix2 r k) = if k.val / 64 ≤ r.val / 64 then s (ix2 r k) else ⊥ := by
  pointwise [k0_pay65]
  rw [ofBits_bot]
  unfold Scalar.select
  exact if_congr (mask_apply r k) rfl rfl

/-! ## The scores -/

/-- The scaled query of head 0: the plain columns, then the rotary lanes of the head and zeros. -/
theorem q0_apply (X4 : FVec Ideal S1x512x256 .f32) (X5 : FVec Ideal S1x512x128 .f32) (r : Fin 512) (i : Fin 128) :
    q0 (F := Ideal) X4 X5 (ix2 r ⟨i.val, by omega⟩) = X4 (ix3 0 r ⟨i.val, by omega⟩) * (kap : EReal)
    ∧ q0 (F := Ideal) X4 X5 (ix2 r ⟨128 + i.val, by omega⟩) = if i.val / 64 = 0 then X5 (ix3 0 r i) * (kap : EReal) else 0 := by
  constructor
  · pointwise [q0, k0_pay94, k0_pay92, k0_pay93, k0_pay87, qt]
    rw [named_kap]
  · pointwise [q0, k0_pay94, k0_pay92, k0_pay93, k0_pay87, qt]
    rw [named_kap, ← floor64.eq_1, floor64_eq _ (by omega)]
    exact if_congr (eq_small _ 0 (by omega) (by omega)) rfl rfl

/-- An element of the second head's scaled query: its own columns, and the upper half of the rotary lanes. -/
theorem q1_apply (X4 : FVec Ideal S1x512x256 .f32) (X5 : FVec Ideal S1x512x128 .f32) (r : Fin 512) (i : Fin 128) :
    q1 (F := Ideal) X4 X5 (ix2 r ⟨i.val, by omega⟩) = X4 (ix3 0 r ⟨128 + i.val, by omega⟩) * (kap : EReal)
    ∧ q1 (F := Ideal) X4 X5 (ix2 r ⟨128 + i.val, by omega⟩) = if i.val / 64 = 1 then X5 (ix3 0 r i) * (kap : EReal) else 0 := by
  constructor
  · pointwise [q1, k0_pay95, k0_pay87, qt]
    rw [named_kap]
  · pointwise [q1, k0_pay95, k0_pay87, qt]
    rw [named_kap, ← floor64.eq_1, floor64_eq _ (by omega)]
    exact if_congr (eq_small _ 1 (by omega) (by omega)) rfl rfl

/-- A score is the product of a query row with the joined key row. -/
theorem scores_apply (q : FVec Ideal S512x256 .bf16) (A B : FVec Ideal S1x512x128 .bf16) (r k : Fin 512) :
    k0_pay3 (F := Ideal) q A B (ix2 r k) = ∑ i : Fin 128, q (ix2 r ⟨i.val, by omega⟩) * A (ix3 0 k i)
      + ∑ i : Fin 128, q (ix2 r ⟨128 + i.val, by omega⟩) * B (ix3 0 k i) := by
  pointwise [k0_pay3]

/-- An element of a key or value tile. -/
theorem tile_apply (X : FVec Ideal S1x16384x256 .bf16) (j h : ℕ) (k : Fin 512) (d : Fin 128) :
    tile (F := Ideal) X j h (ix3 0 k d) = X (ix3 0 ⟨512 * (j % 32) + k.val, by omega⟩ ⟨128 * (h % 2) + d.val, by omega⟩) := by
  pointwise [tile]

/-- An element of a tile of the rotary key. -/
theorem tileR_apply (X : FVec Ideal S1x16384x128 .bf16) (j : ℕ) (k : Fin 512) (d : Fin 128) :
    tileR (F := Ideal) X j (ix3 0 k d) = X (ix3 0 ⟨512 * (j % 32) + k.val, by omega⟩ d) := by
  pointwise [tileR]

/-- An element of the first head's result. -/
theorem out0_apply (KN : FVec Ideal S1x16384x256 .bf16) (X4 : FVec Ideal S1x512x256 .f32) (X5 : FVec Ideal S1x512x128 .f32)
    (KR : FVec Ideal S1x16384x128 .bf16) (VV : FVec Ideal S1x16384x256 .bf16) (n : ℕ) (r : Fin 512) (d : Fin 128) :
    out0 (F := Ideal) KN X4 X5 KR VV n (ix3 0 r d) = Ideal.div ((fin (F := Ideal) (q0 X4 X5) KN KR VV 0 n).acc (ix2 r d)) ((fin (F := Ideal) (q0 X4 X5) KN KR VV 0 n).l (ix2 r 0)) := by
  unfold out0
  generalize (fin (F := Ideal) (q0 X4 X5) KN KR VV 0 n) = z
  pointwise [k0_pay1, k0_pay125]

/-- An element of the second head's result. -/
theorem out1_apply (KN : FVec Ideal S1x16384x256 .bf16) (X4 : FVec Ideal S1x512x256 .f32) (X5 : FVec Ideal S1x512x128 .f32)
    (KR : FVec Ideal S1x16384x128 .bf16) (VV : FVec Ideal S1x16384x256 .bf16) (n : ℕ) (r : Fin 512) (d : Fin 128) :
    out1 (F := Ideal) KN X4 X5 KR VV n (ix3 0 r d) = Ideal.div ((fin (F := Ideal) (q1 X4 X5) KN KR VV 1 n).acc (ix2 r d)) ((fin (F := Ideal) (q1 X4 X5) KN KR VV 1 n).l (ix2 r 0)) := by
  unfold out1
  generalize (fin (F := Ideal) (q1 X4 X5) KN KR VV 1 n) = z
  pointwise [k0_pay2]

/-! ## A row after some tiles -/

section Row
variable (q : FVec Ideal S512x256 .bf16) (KN : FVec Ideal S1x16384x256 .bf16) (KR : FVec Ideal S1x16384x128 .bf16)
    (VV : FVec Ideal S1x16384x256 .bf16) (h n : ℕ) (r : Fin 512) (d : Fin 128) (S W : ℕ → EReal)

/-- A tile of scores and values taken into a row that stands at `a` keys. -/
theorem step_row (s : FVec Ideal S512x512 .f32) (v : FVec Ideal S1x512x128 .bf16) (x : St Ideal) (a : ℕ)
    (hs : ∀ k : Fin 512, s (ix2 r k) = S (a + k.val)) (hv : ∀ k : Fin 512, v (ix3 0 k d) = W (a + k.val))
    (hx : x.m (ix2 r 0) = mx S a ∧ x.l (ix2 r 0) = den S a ∧ x.acc (ix2 r d) = num S W a) :
    (St.step s v x).m (ix2 r 0) = mx S (a + 512) ∧ (St.step s v x).l (ix2 r 0) = den S (a + 512)
      ∧ (St.step s v x).acc (ix2 r d) = num S W (a + 512) := by
  obtain ⟨h1, h2, h3⟩ := hx
  have hm : k0_pay8 (F := Ideal) s x.m (ix2 r 0) = mx S (a + 512) := by
    rw [m_apply, mx_add, h1]; simp only [hs]
  refine ⟨hm, ?_, ?_⟩
  · rw [step_l, l_apply, hm, h1, h2, den_add]; simp only [hs]
  · rw [step_acc, acc_apply, hm, h1, h3, num_add]; simp only [hs, hv]

/-- A row after `n` whole tiles. -/
theorem st_row (hs : ∀ j < n, ∀ k : Fin 512, sc q KN KR h j (ix2 r k) = S (512 * j + k.val))
    (hv : ∀ j < n, ∀ k : Fin 512, tile (F := Ideal) VV j h (ix3 0 k d) = W (512 * j + k.val)) :
    (st q KN KR VV h n).m (ix2 r 0) = mx S (512 * n) ∧ (st q KN KR VV h n).l (ix2 r 0) = den S (512 * n)
      ∧ (st q KN KR VV h n).acc (ix2 r d) = num S W (512 * n) := by
  induction n with
  | zero => rw [Nat.mul_zero, mx_zero, den_zero, num_zero]; exact ⟨init_m r, init_l r, init_acc r d⟩
  | succ n ih =>
    exact step_row r d S W _ _ _ (512 * n) (hs n (by omega)) (hv n (by omega))
      (ih (fun j hj => hs j (by omega)) (fun j hj => hv j (by omega)))

/-- A row after the diagonal tile. -/
theorem fin_row (hs : ∀ j < n, ∀ k : Fin 512, sc q KN KR h j (ix2 r k) = S (512 * j + k.val))
    (hd : ∀ k : Fin 512, (if k.val / 64 ≤ r.val / 64 then sc q KN KR h n (ix2 r k) else ⊥) = S (512 * n + k.val))
    (hv : ∀ j < n + 1, ∀ k : Fin 512, tile (F := Ideal) VV j h (ix3 0 k d) = W (512 * j + k.val)) :
    (fin q KN KR VV h n).l (ix2 r 0) = den S (512 * (n + 1)) ∧ (fin q KN KR VV h n).acc (ix2 r d) = num S W (512 * (n + 1)) :=
  (step_row r d S W _ _ _ (512 * n) (fun k => (masked_apply _ r k).trans (hd k)) (hv n (by omega))
    (st_row q KN KR VV h n r d S W hs (fun j hj => hv j (by omega)))).2
end Row

/-! ## The window's scores -/

/-- The raw score of row `r` and key `k` of head `h` of the pair: the plain columns and the rotary ones. -/
def raw (KN : FVec Ideal S1x16384x256 .bf16) (X4 : FVec Ideal S1x512x256 .f32) (X5 : FVec Ideal S1x512x128 .f32)
    (KR : FVec Ideal S1x16384x128 .bf16) (h : Fin 2) (r : Fin 512) (k : ℕ) : EReal :=
  (∑ i : Fin 128, X4 (ix3 0 r ⟨128 * h.val + i.val, by omega⟩) * KN (ix3 0 ⟨k % 16384, Nat.mod_lt _ (by decide)⟩ ⟨128 * h.val + i.val, by omega⟩))
    + ∑ i : Fin 64, X5 (ix3 0 r ⟨64 * h.val + i.val, by omega⟩) * KR (ix3 0 ⟨k % 16384, Nat.mod_lt _ (by decide)⟩ ⟨64 * h.val + i.val, by omega⟩)

/-- A sum over 128 lanes of which only one half counts. -/
theorem sum_half (h : Fin 2) (f : Fin 128 → EReal) :
    (∑ i : Fin 128, if i.val / 64 = h.val then f i else 0) = ∑ i : Fin 64, f ⟨64 * h.val + i.val, by omega⟩ := by
  rw [← Finset.sum_filter]
  refine (Finset.sum_bij (fun i _ => (⟨64 * h.val + i.val, by omega⟩ : Fin 128)) ?_ ?_ ?_ ?_).symm
  · intro i _; simp only [Finset.mem_filter, Finset.mem_univ, true_and]; omega
  · intro i _ j _ e; have := congrArg Fin.val e; simp only at this; exact Fin.ext (by omega)
  · intro i hi
    simp only [Finset.mem_filter, Finset.mem_univ, true_and] at hi
    exact ⟨⟨i.val % 64, by omega⟩, Finset.mem_univ _, Fin.ext (by simp only; omega)⟩
  · intro i _; rfl

/-- The factor of a product's first operand comes out in front. -/
theorem mul_kap (x y : EReal) : x * (kap : EReal) * y = (kap : EReal) * (x * y) := by
  rw [mul_comm x, mul_assoc]

/-- A head's scores in a tile are the raw ones, scaled. -/
theorem sc_raw (q : FVec Ideal S512x256 .bf16) (KN : FVec Ideal S1x16384x256 .bf16) (X4 : FVec Ideal S1x512x256 .f32) (X5 : FVec Ideal S1x512x128 .f32)
    (KR : FVec Ideal S1x16384x128 .bf16) (h : Fin 2) (r : Fin 512)
    (hq : ∀ i : Fin 128, q (ix2 r ⟨i.val, by omega⟩) = X4 (ix3 0 r ⟨128 * h.val + i.val, by omega⟩) * (kap : EReal)
      ∧ q (ix2 r ⟨128 + i.val, by omega⟩) = if i.val / 64 = h.val then X5 (ix3 0 r i) * (kap : EReal) else 0)
    (j : ℕ) (hj : j < 32) (k : Fin 512) :
    sc q KN KR h.val j (ix2 r k) = raw KN X4 X5 KR h r (512 * j + k.val) * (kap : EReal) := by
  have e1 : (⟨512 * (j % 32) + k.val, by omega⟩ : Fin 16384) = ⟨(512 * j + k.val) % 16384, Nat.mod_lt _ (by decide)⟩ := Fin.ext (by simp only; omega)
  have e2 : ∀ i : Fin 128, (⟨128 * (h.val % 2) + i.val, by omega⟩ : Fin 256) = ⟨128 * h.val + i.val, by omega⟩ := fun i => Fin.ext (by simp only; omega)
  unfold sc raw
  rw [scores_apply, mul_comm _ (kap : EReal), coe_mul_add kap_pos.le, coe_mul_sum kap_pos.le, coe_mul_sum kap_pos.le]
  congr 1
  · refine Finset.sum_congr rfl fun i _ => ?_
    rw [(hq i).1, tile_apply, e1, e2, mul_kap]
  · rw [← sum_half h fun i => (kap : EReal) * (X5 (ix3 0 r i) * KR (ix3 0 ⟨(512 * j + k.val) % 16384, Nat.mod_lt _ (by decide)⟩ i))]
    refine Finset.sum_congr rfl fun i _ => ?_
    rw [(hq i).2, tileR_apply, e1]
    split
    · rw [mul_kap]
    · rw [zero_mul]

/-- The scores a row of query block `n` takes in: those of the keys its chunk sees, scaled. -/
def seen (KN : FVec Ideal S1x16384x256 .bf16) (X4 : FVec Ideal S1x512x256 .f32) (X5 : FVec Ideal S1x512x128 .f32)
    (KR : FVec Ideal S1x16384x128 .bf16) (n : ℕ) (h : Fin 2) (r : Fin 512) (k : ℕ) : EReal :=
  if k / 64 ≤ (512 * n + r.val) / 64 then raw KN X4 X5 KR h r k * (kap : EReal) else ⊥

/-- The values of column `d` of head `h` of the pair. -/
def wval (VV : FVec Ideal S1x16384x256 .bf16) (h : Fin 2) (d : Fin 128) (k : ℕ) : EReal :=
  VV (ix3 0 ⟨k % 16384, Nat.mod_lt _ (by decide)⟩ ⟨128 * h.val + d.val, by omega⟩)

/-- After all the blocks that a query tile sees, the quotient is the attention over every key. -/
theorem fin_value (q : FVec Ideal S512x256 .bf16) (KN : FVec Ideal S1x16384x256 .bf16) (X4 : FVec Ideal S1x512x256 .f32) (X5 : FVec Ideal S1x512x128 .f32)
    (KR : FVec Ideal S1x16384x128 .bf16) (VV : FVec Ideal S1x16384x256 .bf16) (h : Fin 2) (r : Fin 512) (d : Fin 128)
    (hq : ∀ i : Fin 128, q (ix2 r ⟨i.val, by omega⟩) = X4 (ix3 0 r ⟨128 * h.val + i.val, by omega⟩) * (kap : EReal)
      ∧ q (ix2 r ⟨128 + i.val, by omega⟩) = if i.val / 64 = h.val then X5 (ix3 0 r i) * (kap : EReal) else 0)
    (n : ℕ) (hn : n < 32) :
    (fin q KN KR VV h.val n).l (ix2 r 0) = den (seen KN X4 X5 KR n h r) (512 * (n + 1))
      ∧ (fin q KN KR VV h.val n).acc (ix2 r d) = num (seen KN X4 X5 KR n h r) (wval VV h d) (512 * (n + 1)) := by
  refine fin_row q KN KR VV h.val n r d _ _ (fun j hj k => ?_) (fun k => ?_) (fun j hj k => ?_)
  · rw [sc_raw q KN X4 X5 KR h r hq j (by omega) k]
    unfold seen; rw [if_pos (by omega)]
  · rw [sc_raw q KN X4 X5 KR h r hq n hn k]
    unfold seen
    refine if_congr ?_ rfl rfl
    omega
  · rw [tile_apply]
    unfold wval
    congr 2 <;> exact Fin.ext (by simp only; omega)

end Cert.Proof.Flash
end
-- ==== Proof.Host.lean ====
/-
  The windows of the call, read back to the arguments.
-/
module

public import proofs.«01_k».proof.Proof.Run
public import proofs.«01_k».proof.Proof.Block
public import Idealize.ShloMosaic.Lib.Pipeline.ValueKit
public import Idealize.ShloMosaic.Lib.Claim

@[expose] public section

set_option maxRecDepth 16384

noncomputable section

namespace Cert.Proof.Flash

open Cert.KernelIdeal Cert.KernelIdeal.Gen
open Idealize.ShloMosaic Idealize.ShloMosaic.TcCoe

variable (m : (ℓ : Loc nD τ sig) → Buf (Elt Ideal) ℓ) (c : Dev nD)

/-- The queries' columns, as the call takes them. -/
theorem V_qn (b : Fin 2) (s : Fin 16384) (e : Fin 2048) :
    V m c main_v0 (ix3 b s e) = m ((c : Thread nD τ).loc main_arg0) (ix4 b s ⟨e.val / 128, by omega⟩ ⟨e.val % 128, by omega⟩) := by
  entry_read
  pointwise

/-- The rotary queries' columns, as the call takes them. -/
theorem V_qr (b : Fin 2) (s : Fin 16384) (e : Fin 1024) :
    V m c main_v1 (ix3 b s e) = m ((c : Thread nD τ).loc main_arg1) (ix4 b s ⟨e.val / 64, by omega⟩ ⟨e.val % 64, by omega⟩) := by
  entry_read
  pointwise

/-- The left half of the joined array holds the keys. -/
theorem V_kn (b : Fin 2) (s : Fin 16384) (e : Fin 2048) :
    V m c main_v5 (ix3 b s ⟨e.val, by omega⟩) = m ((c : Thread nD τ).loc main_arg2) (ix4 b s ⟨e.val / 128, by omega⟩ ⟨e.val % 128, by omega⟩) := by
  entry_read
  pointwise

/-- The right half of the joined array holds the values. -/
theorem V_v (b : Fin 2) (s : Fin 16384) (e : Fin 2048) :
    V m c main_v5 (ix3 b s ⟨2048 + e.val, by omega⟩) = m ((c : Thread nD τ).loc main_arg3) (ix4 b s ⟨e.val / 128, by omega⟩ ⟨e.val % 128, by omega⟩) := by
  entry_read
  pointwise

/-- The rotary key, held twice in a row's lanes. -/
theorem V_kr (b : Fin 2) (s : Fin 16384) (e : Fin 128) :
    V m c main_v7 (ix3 b s e) = m ((c : Thread nD τ).loc main_arg4) (ix3 b s ⟨e.val % 64, by omega⟩) := by
  entry_read
  pointwise
  by_cases h : e.val < 64
  · rw [dif_pos h]; blk_ext []
  · rw [dif_neg h]; blk_ext []

/-- The block of each window at each grid step. -/
theorem idx : ∀ t : Fin cfg0.N, win0_0.index t = ![t.val / 256, 0, t.val / 32 % 8] ∧ win0_1.index t = ![t.val / 256, t.val % 32, t.val / 32 % 8]
    ∧ win0_2.index t = ![t.val / 256, t.val % 32, t.val / 32 % 8] ∧ win0_3.index t = ![t.val / 256, 0, 0]
    ∧ win0_4.index t = ![t.val / 256, 0, 8 + t.val / 32 % 8] ∧ win0_5.index t = ![t.val / 256, t.val % 32, t.val / 32 % 8]
    ∧ (grid0.coords t 2).val = t.val % 32 :=
  (by decide +kernel : ∀ t : Fin grid0.N, _)

/-- There are 512 grid steps. -/
theorem lt_N (t : Fin cfg0.N) : t.val < 512 := t.isLt

/-- The batch of a grid point, -/
abbrev bat (t : Fin cfg0.N) : Fin 2 := ⟨t.val / 256, by have := lt_N t; omega⟩
/-- its query block's row, -/
abbrev row (t : Fin cfg0.N) (r : Fin 512) : Fin 16384 := ⟨512 * (t.val % 32) + r.val, by omega⟩
/-- and a head of its pair. -/
abbrev head (t : Fin cfg0.N) (h : Fin 2) : Fin 16 := ⟨2 * (t.val / 32 % 8) + h.val, by omega⟩

/-- The query window holds the pair's queries at the block's rows, -/
theorem blk_qn (t : Fin cfg0.N) (r : Fin 512) (h : Fin 2) (i : Fin 128) :
    iblk m c 1 t (ix3 0 r ⟨128 * h.val + i.val, by omega⟩) = m ((c : Thread nD τ).loc main_arg0) (ix4 (bat t) (row t r) (head t h) i) := by
  have hN := lt_N t
  refine Eq.trans ?_ ((V_qn m c (bat t) (row t r) ⟨256 * (t.val / 32 % 8) + (128 * h.val + i.val), by omega⟩).trans ?_)
  · blk_simp [iblk, idx t]
    blk_ext [idx t]
  · blk_ext []

/-- the rotary query window the pair's rotary queries, -/
theorem blk_qr (t : Fin cfg0.N) (r : Fin 512) (h : Fin 2) (i : Fin 64) :
    iblk m c 2 t (ix3 0 r ⟨64 * h.val + i.val, by omega⟩) = m ((c : Thread nD τ).loc main_arg1) (ix4 (bat t) (row t r) (head t h) i) := by
  have hN := lt_N t
  refine Eq.trans ?_ ((V_qr m c (bat t) (row t r) ⟨128 * (t.val / 32 % 8) + (64 * h.val + i.val), by omega⟩).trans ?_)
  · blk_simp [iblk, idx t]
    blk_ext [idx t]
  · blk_ext []

/-- the key window the pair's keys, all of them, -/
theorem blk_kn (t : Fin cfg0.N) (k : Fin 16384) (h : Fin 2) (i : Fin 128) :
    iblk m c 0 t (ix3 0 k ⟨128 * h.val + i.val, by omega⟩) = m ((c : Thread nD τ).loc main_arg2) (ix4 (bat t) k (head t h) i) := by
  have hN := lt_N t
  refine Eq.trans ?_ ((V_kn m c (bat t) k ⟨256 * (t.val / 32 % 8) + (128 * h.val + i.val), by omega⟩).trans ?_)
  · blk_simp [iblk, idx t]
    blk_ext [idx t]
  · blk_ext []

/-- the rotary key window the rotary keys, once for each head of the pair, -/
theorem blk_kr (t : Fin cfg0.N) (k : Fin 16384) (h : Fin 2) (i : Fin 64) :
    iblk m c 3 t (ix3 0 k ⟨64 * h.val + i.val, by omega⟩) = m ((c : Thread nD τ).loc main_arg4) (ix3 (bat t) k i) := by
  have hN := lt_N t
  refine Eq.trans ?_ ((V_kr m c (bat t) k ⟨64 * h.val + i.val, by omega⟩).trans ?_)
  · blk_simp [iblk, idx t]
    blk_ext [idx t]
  · blk_ext []

/-- and the value window the pair's values. -/
theorem blk_v (t : Fin cfg0.N) (k : Fin 16384) (h : Fin 2) (i : Fin 128) :
    iblk m c 4 t (ix3 0 k ⟨128 * h.val + i.val, by omega⟩) = m ((c : Thread nD τ).loc main_arg3) (ix4 (bat t) k (head t h) i) := by
  have hN := lt_N t
  refine Eq.trans ?_ ((V_v m c (bat t) k ⟨256 * (t.val / 32 % 8) + (128 * h.val + i.val), by omega⟩).trans ?_)
  · blk_simp [iblk, idx t]
    blk_ext [idx t]
  · blk_ext []

end Cert.Proof.Flash
end
-- ==== Proof.Attn.lean ====
/-
  The attention both programs compute, over the extended reals, as one formula of the five arguments.
-/
module

public import proofs.«01_k».proof.Proof.Words

@[expose] public section

noncomputable section

namespace Cert.Proof.Flash

open Idealize.ShloMosaic

/-- Key `k`, a number below 16384. -/
abbrev key (k : ℕ) : Fin 16384 := ⟨k % 16384, Nat.mod_lt _ (by decide)⟩

variable (qn : Fin 2 → Fin 16384 → Fin 16 → Fin 128 → EReal) (qr : Fin 2 → Fin 16384 → Fin 16 → Fin 64 → EReal)
  (kn v : Fin 2 → Fin 16384 → Fin 16 → Fin 128 → EReal) (kr : Fin 2 → Fin 16384 → Fin 64 → EReal)

/-- The scaled score of query `s` and key `k` of head `h`, minus infinity where the key's chunk of 64 is after the query's. -/
def score (b : Fin 2) (h : Fin 16) (s : Fin 16384) (k : ℕ) : EReal :=
  if k / 64 ≤ s.val / 64 then
    ((∑ i : Fin 128, qn b s h i * kn b (key k) h i) + ∑ i : Fin 64, qr b s h i * kr b (key k) i) * ((4843165 / 67108864 : ℝ) : EReal)
  else ⊥

/-- The attention of one query, head and value column: the values weighted by the exponentials of the scores less their greatest, over
    the sum of the weights. -/
def attn (b : Fin 2) (h : Fin 16) (s : Fin 16384) (d : Fin 128) : EReal :=
  Ideal.div
    (∑ k : Fin 16384, Ideal.exp (score qn qr kn kr b h s k - mx (score qn qr kn kr b h s) 16384) * v b (key k) h d)
    (∑ k : Fin 16384, Ideal.exp (score qn qr kn kr b h s k - mx (score qn qr kn kr b h s) 16384))

/-- It is the quotient of the running sums over the keys up to any bound past which every score is minus infinity, the scores in base two. -/
theorem attn_eq (b : Fin 2) (h : Fin 16) (s : Fin 16384) (d : Fin 128) (n : ℕ) (hn : n ≤ 16384) (hs : s.val / 64 < n / 64) (hm : n % 64 = 0) :
    Ideal.div (num (fun k => score qn qr kn kr b h s k * (((Real.log 2)⁻¹ : ℝ) : EReal)) (fun k => v b (key k) h d) n)
        (den (fun k => score qn qr kn kr b h s k * (((Real.log 2)⁻¹ : ℝ) : EReal)) n)
      = attn qn qr kn v kr b h s d := by
  have hi : 0 < (Real.log 2)⁻¹ := inv_pos.mpr (Real.log_pos (by norm_num))
  have hb : ∀ k, n ≤ k → k < 16384 → score qn qr kn kr b h s k * (((Real.log 2)⁻¹ : ℝ) : EReal) = ⊥ := by
    intro k hk _
    unfold score
    rw [if_neg (by omega), EReal.bot_mul_coe_of_pos hi]
  rw [← num_hidden (s := fun k => score qn qr kn kr b h s k * (((Real.log 2)⁻¹ : ℝ) : EReal)) _ hn hb,
    ← den_hidden (s := fun k => score qn qr kn kr b h s k * (((Real.log 2)⁻¹ : ℝ) : EReal)) hn hb, quotient_scaled]
  rfl

end Cert.Proof.Flash
end
-- ==== Proof.Out.lean ====
/-
  The kernel's result array: the attention of the arguments.
-/
module

public import proofs.«01_k».proof.Proof.Host
public import proofs.«01_k».proof.Proof.Attn
public import Idealize.ShloMosaic.Lib.Pipeline.Covers

@[expose] public section

set_option maxRecDepth 16384

noncomputable section

namespace Cert.Proof.Flash

open Cert.KernelIdeal Cert.KernelIdeal.Gen
open Idealize.ShloMosaic Idealize.ShloMosaic.TcCoe

/-- A function of three arguments at equal arguments. -/
theorem congrArg₃ {α β γ δ : Type*} (f : α → β → γ → δ) {a a' : α} {b b' : β} {c c' : γ} (ha : a = a') (hb : b = b') (hc : c = c') :
    f a b c = f a' b' c' := by subst ha hb hc; rfl

/-- The output window, half by half. -/
theorem outW_apply (KN : FVec Ideal S1x16384x256 .bf16) (X4 : FVec Ideal S1x512x256 .f32) (X5 : FVec Ideal S1x512x128 .f32)
    (KR : FVec Ideal S1x16384x128 .bf16) (VV : FVec Ideal S1x16384x256 .bf16) (n : ℕ) (w : Fin 2 → Fin 512 → Fin 128 → EReal)
    (w0 : ∀ r d, out0 (F := Ideal) KN X4 X5 KR VV n (ix3 0 r d) = w 0 r d)
    (w1 : ∀ r d, out1 (F := Ideal) KN X4 X5 KR VV n (ix3 0 r d) = w 1 r d) (y : S1x512x256.Idx) :
    outW (F := Ideal) KN X4 X5 KR VV n y = w ⟨(y 2).val / 128, by have : (y 2).val < 256 := (y 2).isLt; omega⟩ (y 1)
      ⟨(y 2).val % 128, Nat.mod_lt _ (by decide)⟩ := by
  unfold outW outs
  canon_tiles x h
  · have e : x = ix3 0 (x 1) (x 2) := by blk_ext []
    refine ((congrArg _ e).trans (w1 (x 1) (x 2))).trans ?_
    exact congrArg₃ w (Fin.ext (by simp only; omega)) (Fin.ext (by omega)) (Fin.ext (by simp only; omega))
  · have e : x = ix3 0 (x 1) (x 2) := by blk_ext []
    refine ((congrArg _ e).trans (w0 (x 1) (x 2))).trans ?_
    exact congrArg₃ w (Fin.ext (by simp only; omega)) (Fin.ext (by omega)) (Fin.ext (by simp only; omega))

variable (m : (ℓ : Loc nD τ sig) → Buf (Elt Ideal) ℓ) (c : Dev nD)

/-- The five arguments, by coordinates. -/
abbrev qnA : Fin 2 → Fin 16384 → Fin 16 → Fin 128 → EReal := fun b s h i => m ((c : Thread nD τ).loc main_arg0) (ix4 b s h i)
/-- The rotary queries, by batch, row, head and lane. -/
abbrev qrA : Fin 2 → Fin 16384 → Fin 16 → Fin 64 → EReal := fun b s h i => m ((c : Thread nD τ).loc main_arg1) (ix4 b s h i)
/-- The keys, by batch, row, head and column. -/
abbrev knA : Fin 2 → Fin 16384 → Fin 16 → Fin 128 → EReal := fun b s h i => m ((c : Thread nD τ).loc main_arg2) (ix4 b s h i)
/-- The values, by batch, row, head and column. -/
abbrev vA : Fin 2 → Fin 16384 → Fin 16 → Fin 128 → EReal := fun b s h i => m ((c : Thread nD τ).loc main_arg3) (ix4 b s h i)
/-- The rotary key, by batch, row and lane. -/
abbrev krA : Fin 2 → Fin 16384 → Fin 64 → EReal := fun b s i => m ((c : Thread nD τ).loc main_arg4) (ix3 b s i)

/-- The scores a row takes in are the attention's, in base two. -/
theorem seen_score (t : Fin cfg0.N) (h : Fin 2) (r : Fin 512) :
    seen (iblk m c 0 t) (iblk m c 1 t) (iblk m c 2 t) (iblk m c 3 t) (t.val % 32) h r
      = fun k => score (qnA m c) (qrA m c) (knA m c) (krA m c) (bat t) (head t h) (row t r) k * (((Real.log 2)⁻¹ : ℝ) : EReal) := by
  have hi : 0 < (Real.log 2)⁻¹ := inv_pos.mpr (Real.log_pos (by norm_num))
  funext k
  unfold seen score raw
  by_cases hk : k / 64 ≤ (512 * (t.val % 32) + r.val) / 64
  · rw [if_pos hk, if_pos hk, mul_assoc, ← EReal.coe_mul]
    simp only [blk_qn, blk_kn, blk_qr, blk_kr]
    rfl
  · rw [if_neg hk, if_neg hk, EReal.bot_mul_coe_of_pos hi]

/-- The values that a step's window holds. -/
theorem wval_value (t : Fin cfg0.N) (h : Fin 2) (d : Fin 128) :
    wval (iblk m c 4 t) h d = fun k => vA m c (bat t) (key k) (head t h) d := by
  funext k
  unfold wval
  rw [blk_v]

/-- The first head of a step's block is the attention of that head. -/
theorem out0_value (t : Fin cfg0.N) (r : Fin 512) (d : Fin 128) :
    out0 (F := Ideal) (iblk m c 0 t) (iblk m c 1 t) (iblk m c 2 t) (iblk m c 3 t) (iblk m c 4 t) (t.val % 32) (ix3 0 r d)
      = attn (qnA m c) (qrA m c) (knA m c) (vA m c) (krA m c) (bat t) (head t 0) (row t r) d := by
  obtain ⟨h1, h2⟩ := fin_value (q0 (iblk m c 1 t) (iblk m c 2 t)) (iblk m c 0 t) (iblk m c 1 t) (iblk m c 2 t) (iblk m c 3 t) (iblk m c 4 t) 0 r d
    (fun i => by
      obtain ⟨a, b⟩ := q0_apply (iblk m c 1 t) (iblk m c 2 t) r i
      exact ⟨a.trans (by congr 2; blk_ext []), b⟩) (t.val % 32) (by omega)
  rw [seen_score, wval_value] at h2
  rw [seen_score] at h1
  refine (out0_apply _ _ _ _ _ _ r d).trans ?_
  refine (congrArg₂ Ideal.div h2 h1).trans ?_
  exact attn_eq _ _ _ _ _ _ _ _ _ _ (by omega) (by simp only; omega) (by omega)

/-- The second head of a step's block is the attention of that head. -/
theorem out1_value (t : Fin cfg0.N) (r : Fin 512) (d : Fin 128) :
    out1 (F := Ideal) (iblk m c 0 t) (iblk m c 1 t) (iblk m c 2 t) (iblk m c 3 t) (iblk m c 4 t) (t.val % 32) (ix3 0 r d)
      = attn (qnA m c) (qrA m c) (knA m c) (vA m c) (krA m c) (bat t) (head t 1) (row t r) d := by
  obtain ⟨h1, h2⟩ := fin_value (q1 (iblk m c 1 t) (iblk m c 2 t)) (iblk m c 0 t) (iblk m c 1 t) (iblk m c 2 t) (iblk m c 3 t) (iblk m c 4 t) 1 r d
    (fun i => by
      obtain ⟨a, b⟩ := q1_apply (iblk m c 1 t) (iblk m c 2 t) r i
      exact ⟨a.trans (by congr 2), b⟩) (t.val % 32) (by omega)
  rw [seen_score, wval_value] at h2
  rw [seen_score] at h1
  refine (out1_apply _ _ _ _ _ _ r d).trans ?_
  refine (congrArg₂ Ideal.div h2 h1).trans ?_
  exact attn_eq _ _ _ _ _ _ _ _ _ _ (by omega) (by simp only; omega) (by omega)

/-- The attention as an array: column `e` is head `e / 128`, value column `e % 128`. -/
def G : S2x16384x2048.Idx → EReal := fun y =>
  attn (qnA m c) (qrA m c) (knA m c) (vA m c) (krA m c) (y 0) ⟨(y 2).val / 128, by have : (y 2).val < 2048 := (y 2).isLt; omega⟩ (y 1)
    ⟨(y 2).val % 128, Nat.mod_lt _ (by decide)⟩

/-- The result array ends holding the attention. -/
theorem final (c : Dev nD) : (dats m 0 c).arrAt 5 cfg0.N = G m c := by
  refine (dats m 0 c).arrAt_eq_of_covers 5 _ (by decide +kernel) fun t hf y => ?_
  have hN := lt_N t
  blk_simp
  rw [after_5, (idx t).2.2.2.2.2.2]
  refine (outW_apply _ _ _ _ _ _ (fun h r d => attn (qnA m c) (qrA m c) (knA m c) (vA m c) (krA m c) (bat t) (head t h) (row t r) d)
    (out0_value m c t) (out1_value m c t) y).trans ?_
  have e0 : ((((cfg0.win 5).blk t).view.emb y) 0).val = t.val / 256 + (y 0).val := by blk_simp [idx t]
  have e1 : ((((cfg0.win 5).blk t).view.emb y) 1).val = t.val % 32 * 512 + (y 1).val := by blk_simp [idx t]
  have e2 : ((((cfg0.win 5).blk t).view.emb y) 2).val = t.val / 32 % 8 * 256 + (y 2).val := by blk_simp [idx t]
  have y0 : (y 0).val < 1 := (y 0).isLt
  have y2 : (y 2).val < 256 := (y 2).isLt
  unfold G
  generalize ((cfg0.win 5).blk t).view.emb y = z at *
  have a0 : z 0 = bat t := Fin.ext (by simp only; omega)
  have a1 : z 1 = row t (y 1) := Fin.ext (by simp only; omega)
  have a2 : (⟨(z 2).val / 128, by have : (z 2).val < 2048 := (z 2).isLt; omega⟩ : Fin 16) = head t ⟨(y 2).val / 128, by omega⟩ :=
    Fin.ext (by simp only; omega)
  have a3 : (⟨(z 2).val % 128, Nat.mod_lt _ (by decide)⟩ : Fin 128) = ⟨(y 2).val % 128, Nat.mod_lt _ (by decide)⟩ := Fin.ext (by simp only; omega)
  rw [a0, a1, a2, a3]

end Cert.Proof.Flash
end
-- ==== Proof.RefRead.lean ====
/-
  The reference's result read at an element, over the extended reals.
-/
module

public import proofs.«01_k».proof.Proof.Gen.ReferenceIdeal.Run
public import proofs.«01_k».proof.Proof.Attn

@[expose] public section

set_option maxRecDepth 16384

noncomputable section

namespace Cert.Proof.Flash

open Cert.ReferenceIdeal Cert.ReferenceIdeal.Gen
open Idealize.ShloMosaic Idealize.ShloMosaic.TcCoe

/-- The chunk's length. -/
theorem c64 : (id (constantI S_ 32 64#32) ix0 : BitVec 32) = 64#32 := rfl
/-- The sign of a word. -/
def signR (x : BitVec 32) : BitVec 32 := if x = 0 then 0 else if x.msb = true then -1 else 1

/-- The sign of an array, at an index. -/
theorem signi_at {s : Shape} (x : IVec s 32) (i : s.Idx) : signi x i = signR (x i) := rfl

/-- The reference's floored division by 64 of a word `x`. -/
def floorR (x : BitVec 32) : BitVec 32 :=
  Scalar.select
    (IntOp.andi
      (IntOp.cmpi .ne (signR x) (signR 64#32))
      (IntOp.cmpi .ne (IntOp.remsi .host x 64#32) 0#32))
    (IntOp.subi (IntOp.divsi .host x 64#32) 1#32)
    (IntOp.divsi .host x 64#32)

/-- The reference's division by 64, at every position. -/
theorem floorR_table : ∀ a : Fin 256, ∀ b : Fin 64, floorR (BitVec.ofNat 32 (64 * a.val + b.val)) = BitVec.ofNat 32 a.val := by
  decide +kernel

/-- It is the quotient, below 16384. -/
theorem floorR_eq (n : Fin 16384) : floorR (BitVec.ofNat 32 n.val) = BitVec.ofNat 32 (n.val / 64) := by
  have := floorR_table ⟨n.val / 64, by omega⟩ ⟨n.val % 64, by omega⟩
  simpa only [Nat.div_add_mod] using this

/-- A score kept or hidden by the chunks of its key and query. -/
theorem select_chunk (k q : Fin 16384) (x y : EReal) :
    Scalar.select (IntOp.cmpi .sle (floorR (BitVec.ofNat 32 k.val)) (floorR (BitVec.ofNat 32 q.val))) x y = if k.val / 64 ≤ q.val / 64 then x else y := by
  rw [floorR_eq, floorR_eq]
  unfold Scalar.select
  exact if_congr (sle_small _ _ (by omega) (by omega)) rfl rfl

/-- What the mask writes is minus infinity. -/
theorem hide : (id (constant (F := Ideal) S_ FTy.f32 4286578688#32) ix0 : EReal) = ⊥ := ofBits_bot

/-- A position below the length is its own key. -/
theorem key_val (k : Fin 16384) : key k.val = k := Fin.ext (Nat.mod_eq_of_lt k.isLt)

variable (m : (ℓ : Loc nD τ sig) → Buf (Elt Ideal) ℓ) (c : Dev nD)

/-- The five arguments, by coordinates. -/
abbrev qnR : Fin 2 → Fin 16384 → Fin 16 → Fin 128 → EReal := fun b s h i => m ((c : Thread nD τ).loc main_arg0) (ix4 b s h i)
/-- The rotary queries, by batch, row, head and lane. -/
abbrev qrR : Fin 2 → Fin 16384 → Fin 16 → Fin 64 → EReal := fun b s h i => m ((c : Thread nD τ).loc main_arg1) (ix4 b s h i)
/-- The keys, by batch, row, head and column. -/
abbrev knR : Fin 2 → Fin 16384 → Fin 16 → Fin 128 → EReal := fun b s h i => m ((c : Thread nD τ).loc main_arg2) (ix4 b s h i)
/-- The values, by batch, row, head and column. -/
abbrev vR : Fin 2 → Fin 16384 → Fin 16 → Fin 128 → EReal := fun b s h i => m ((c : Thread nD τ).loc main_arg3) (ix4 b s h i)
/-- The rotary key, by batch, row and lane. -/
abbrev krR : Fin 2 → Fin 16384 → Fin 64 → EReal := fun b s i => m ((c : Thread nD τ).loc main_arg4) (ix3 b s i)

/-- A score of the reference, masked. -/
theorem score_read (a0 a2 : FVec Ideal S2x16384x16x128 .f32) (a1 : FVec Ideal S2x16384x16x64 .f32) (a4 : FVec Ideal S2x16384x64 .f32)
    (b : Fin 2) (h : Fin 16) (q k : Fin 16384) :
    (if k.val / 64 ≤ q.val / 64 then
      ((∑ i : Fin 128, a0 (ix4 b q h i) * a2 (ix4 b k h i)) + ∑ i : Fin 64, a4 (ix3 b k i) * a1 (ix4 b q h i)) * Ideal.ofBits .f32 1033096506#32
      else (⊥ : EReal))
      = score (fun b s h i => a0 (ix4 b s h i)) (fun b s h i => a1 (ix4 b s h i)) (fun b s h i => a2 (ix4 b s h i)) (fun b s i => a4 (ix3 b s i)) b h q k.val := by
  have e : (∑ i : Fin 64, a4 (ix3 b k i) * a1 (ix4 b q h i)) = ∑ i : Fin 64, a1 (ix4 b q h i) * a4 (ix3 b k i) :=
    Finset.sum_congr rfl fun i _ => mul_comm _ _
  unfold score
  rw [ofBits_scale, key_val, e]

/-- The reference's result at an element is the attention. -/
theorem ref_read (b : Fin 2) (q : Fin 16384) (e : Fin 2048) :
    Cert.ReferenceIdeal.Value.res_main_v28 (F := Ideal) m c (ix3 b q e)
      = attn (qnR m c) (qrR m c) (knR m c) (vR m c) (krR m c) b ⟨e.val / 128, by omega⟩ q ⟨e.val % 128, by omega⟩ := by
  pointwise [Cert.ReferenceIdeal.Value.res_main_v28, signi_at]
  simp only [c64, hide, ← floorR.eq_1, select_chunk, ofBits_bot]
  have hs := fun k => score_read (m ((c : Thread nD τ).loc main_arg0)) (m ((c : Thread nD τ).loc main_arg2)) (m ((c : Thread nD τ).loc main_arg1))
    (m ((c : Thread nD τ).loc main_arg4)) b ⟨e.val / 128, by omega⟩ q k
  simp only [hs]
  unfold attn
  rw [mx_fold]
  refine congrArg₂ Ideal.div (Finset.sum_congr rfl fun k _ => ?_) rfl
  rw [key_val]
  exact mul_comm _ _

end Cert.Proof.Flash
end
-- ==== Proof.Equal.lean ====
/-
  Over the extended reals the kernel and the reference compute the same array.
-/
module

public import proofs.«01_k».proof.Defs
public import proofs.«01_k».proof.Proof.Out
public import proofs.«01_k».proof.Proof.RefRead
public import Idealize.ShloMosaic.Lib.Claim

@[expose] public section

set_option maxRecDepth 16384

noncomputable section

namespace Cert.Proof.Flash

open Idealize.ShloMosaic Idealize.ShloMosaic.TcCoe Idealize.SL.Sem

/-- At equal arguments the reference's result is the kernel's array. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4)) :
    Cert.ReferenceIdeal.Value.res_main_v28 (F := Ideal) m' c = G m c := by
  funext j
  have hj : j = ix3 (j 0) (j 1) (j 2) := by blk_ext []
  refine (congrArg _ hj).trans ((ref_read m' c (j 0) (j 1) (j 2)).trans ?_)
  unfold G qnR qrR knR vR krR qnA qrA knA vA krA
  rw [h0, h1, h2, h3, h4]

section Kernel
open Cert.KernelIdeal Cert.KernelIdeal.Gen

/-- The ideal kernel ends with the attention of its arguments, the arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 5).trans (final m c), h.2.1 c⟩)
    (θ_run_and (run_main (F := Ideal) m ρ) (run_frame (F := Ideal) m ρ))
end Kernel

/-- The ideal kernel and the reference, from equal arguments, end with equal results. -/
theorem algebraic : Cert.algebraic_KernelIdeal_ReferenceIdeal (hKernelIdeal := Cert.KernelIdeal.Gen.facts)
    (hReferenceIdeal := Cert.ReferenceIdeal.Gen.facts) := fun m g m' g' _ hagree =>
  ⟨fun c => G m c, run_value m g,
    (θ_run Cert.ReferenceIdeal.defs _ _).mono (fun _ h c => by
        obtain ⟨h0, h1, h2, h3, h4⟩ := hagree c
        exact ⟨(h c).1.trans (ref_eq m m' c h0 h1 h2 h3 h4), (h c).2⟩)
      (Cert.ReferenceIdeal.Value.run (F := Ideal) m' g')⟩

end Cert.Proof.Flash
end
-- ==== Proof.EvenBody.lean ====
/-
  The body of the input projection's call: at every grid step it stores the product of a row tile and a column tile, and at
  some steps it stores it, or the last rows of it, into a further window too.
-/
module

public import proofs.«01_k».proof.Proof.Gen.Kernel2Ideal.Skeleton
public import proofs.«01_k».proof.Proof.Gen.Kernel2Ideal.Frame
public import Idealize.ShloMosaic.Lib.Tactic
public import Idealize.ShloMosaic.Lib.VecWindow

@[expose] public section

set_option maxRecDepth 16384

noncomputable section

namespace Cert.Proof.Even

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- No loop needs a variant. -/
abbrev noVar : Variants := Variants.none

local notation "𝕄" => MT nD τ sig Unit (Elt F) ℕ (UR sig nD τ) ℕ

section Body
variable (c : Dev nD) (i : grid0.Coords)
  (arg3 : Memref sig .tc .vmem S1x1024x2048 .bf16) (harg3 : arg3.IsWhole)
  (arg4 : Memref sig .tc .vmem S1x2048x1024 .bf16) (harg4 : arg4.IsWhole)
  (arg5 : Memref sig .tc .vmem S1x1024x1024 .bf16) (harg5 : arg5.IsWhole)
  (arg6 : Memref sig .tc .vmem S1x1024x1024 .f32) (harg6 : arg6.IsWhole)
  (arg7 : Memref sig .tc .vmem S1x1024x1024 .f32) (harg7 : arg7.IsWhole)
  (arg8 : Memref sig .tc .vmem S1x512x1024 .f32) (harg8 : arg8.IsWhole)
  (arg9 : Memref sig .tc .vmem S1x512x1024 .f32) (harg9 : arg9.IsWhole)

/-- The body from windows that read `x3`, `x4` and `d6 … d9`: the product goes to the first output, and to each further one
    where its condition holds; elsewhere that one is as it was. -/
theorem body_run (x3 : Vec F S1x1024x2048 .bf16) (x4 : Vec F S1x2048x1024 .bf16) (d6 d7 : Vec F S1x1024x1024 .f32)
    (d8 d9 : Vec F S1x512x1024 .f32) (K : PUnit → sProp 𝕄) :
    iprop(owns (c : Thread nD τ) arg3 fullShare x3 ∗ owns (c : Thread nD τ) arg4 fullShare x4 ∗ (∃ d, owns (c : Thread nD τ) arg5 fullShare d)
        ∗ owns (c : Thread nD τ) arg6 fullShare d6 ∗ owns (c : Thread nD τ) arg7 fullShare d7
        ∗ owns (c : Thread nD τ) arg8 fullShare d8 ∗ owns (c : Thread nD τ) arg9 fullShare d9
        ∗ (iprop(owns (c : Thread nD τ) arg3 fullShare x3 ∗ owns (c : Thread nD τ) arg4 fullShare x4
          ∗ owns (c : Thread nD τ) arg5 fullShare (k0_pay2 x3 x4)
          ∗ owns (c : Thread nD τ) arg6 fullShare (if k0_cond1 i = 1#1 then k0_pay3 x3 x4 else d6)
          ∗ owns (c : Thread nD τ) arg7 fullShare (if k0_cond2 i = 1#1 then k0_pay4 x3 x4 else d7)
          ∗ owns (c : Thread nD τ) arg8 fullShare (if k0_cond3 i = 1#1 then k0_pay5 x3 x4 else d8)
          ∗ owns (c : Thread nD τ) arg9 fullShare (if k0_cond4 i = 1#1 then k0_pay6 x3 x4 else d9)) -∗ K ⟨⟩))
      ⊢ wp frame (wpE (defs₀ (F := F)) noVar (c : Thread nD τ) none) Set.univ
        (cc0_even_in (F := F) i arg3 harg3 arg4 harg4 arg5 harg5 arg6 harg6 arg7 harg7 arg8 harg8 arg9 harg9) K := by
  unfold owns
  iintro ⟨⟨%f3, %e3, H3⟩, ⟨%f4, %e4, H4⟩, ⟨%d5, %f5, -, H5⟩, ⟨%f6, %e6, H6⟩, ⟨%f7, %e7, H7⟩, ⟨%f8, %e8, H8⟩, ⟨%f9, %e9, H9⟩, Hk⟩
  subst e3 e4 e6 e7 e8 e9
  have r3 : arg3.view.readAt (Elt F) (Rect.unit (s := S1x1024x2048) ![0, 0, 0] S1x1024x2048.size inb_S1x1024x2048_S1x1024x2048_0_0_0).toLoadRect f3 = arg3.view.read (Elt F) f3 := View.readAt_full _ _ _
  have r4 : arg4.view.readAt (Elt F) (Rect.unit (s := S1x2048x1024) ![0, 0, 0] S1x2048x1024.size inb_S1x2048x1024_S1x2048x1024_0_0_0).toLoadRect f4 = arg4.view.read (Elt F) f4 := View.readAt_full _ _ _
  by_cases h1 : k0_cond1 i = 1#1 <;> by_cases h2 : k0_cond2 i = 1#1 <;> by_cases h3 : k0_cond3 i = 1#1 <;> by_cases h4 : k0_cond4 i = 1#1
  all_goals
    simp only [h1, h2, h3, h4, if_true, if_false]
    sl_exec
    sl_step
    iapply Hk
    isplitl [H3]
    · iexists _; isplitr
      swap; · iexact H3
      ipureintro; first | rfl | exact View.read_writes_full _ _ _ _ _
    isplitl [H4]
    · iexists _; isplitr
      swap; · iexact H4
      ipureintro; first | rfl | exact View.read_writes_full _ _ _ _ _
    isplitl [H5]
    · iexists _; isplitr
      swap; · iexact H5
      ipureintro; first | rfl | exact View.read_writes_full _ _ _ _ _
    isplitl [H6]
    · iexists _; isplitr
      swap; · iexact H6
      ipureintro; first | rfl | exact View.read_writes_full _ _ _ _ _
    isplitl [H7]
    · iexists _; isplitr
      swap; · iexact H7
      ipureintro; first | rfl | exact View.read_writes_full _ _ _ _ _
    isplitl [H8]
    · iexists _; isplitr
      swap; · iexact H8
      ipureintro; first | rfl | exact View.read_writes_full _ _ _ _ _
    iexists _; isplitr
    swap; · iexact H9
    ipureintro; first | rfl | exact View.read_writes_full _ _ _ _ _
end Body
end Cert.Proof.Even
end
-- ==== Proof.EvenRun.lean ====
/-
  The run of the input projection's call, over any float values: the proof data of its pipeline, its body at every grid
  point, the launch, and what follows for the arguments and the semaphore counters. Four of the outputs are stored at some
  points only; their windows carry what was stored to the point that writes it back.
-/
module

public import proofs.«01_k».proof.Proof.EvenBody
public import Idealize.ShloMosaic.Lib.Pipeline.TableIdle
public import Idealize.ShloMosaic.Lib.Claim

@[expose] public section

set_option maxRecDepth 16384

noncomputable section

namespace Cert.Proof.Even

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The point of the same row tile with column tile `j`. -/
def rowPt (j : ℕ) (hj : j < 6) (t : Fin cfg0.N) : Fin cfg0.N :=
  ⟨t.val - t.val % 6 + j, by have h : t.val < 192 := t.isLt; show _ < 192; omega⟩

/-- The `j`-th point of the same sequence. -/
def seqPt (j : ℕ) (hj : j < 96) (t : Fin cfg0.N) : Fin cfg0.N :=
  ⟨t.val - t.val % 96 + j, by have h : t.val < 192 := t.isLt; show _ < 192; omega⟩

/-- Where the first further window is stored, -/
theorem cond1_iff : ∀ t : Fin cfg0.N, k0_cond1 (grid0.coords t) = 1#1 ↔ t.val % 6 = 1 :=
  (by decide +kernel : ∀ t : Fin 192, k0_cond1 (grid0.coords t) = 1#1 ↔ t.val % 6 = 1)
/-- the second, -/
theorem cond2_iff : ∀ t : Fin cfg0.N, k0_cond2 (grid0.coords t) = 1#1 ↔ t.val % 6 = 2 :=
  (by decide +kernel : ∀ t : Fin 192, k0_cond2 (grid0.coords t) = 1#1 ↔ t.val % 6 = 2)
/-- the third, -/
theorem cond3_iff : ∀ t : Fin cfg0.N, k0_cond3 (grid0.coords t) = 1#1 ↔ t.val % 96 = 94 :=
  (by decide +kernel : ∀ t : Fin 192, k0_cond3 (grid0.coords t) = 1#1 ↔ t.val % 96 = 94)
/-- and the fourth. -/
theorem cond4_iff : ∀ t : Fin cfg0.N, k0_cond4 (grid0.coords t) = 1#1 ↔ t.val % 96 = 95 :=
  (by decide +kernel : ∀ t : Fin 192, k0_cond4 (grid0.coords t) = 1#1 ↔ t.val % 96 = 95)

/-- A window is idle where its condition does not hold. -/
theorem idle_3 (t : Fin cfg0.N) : cfg0.idle 3 (cfg0.grid.coords t) = !decide (t.val % 6 = 1) := by
  show (!(k0_cond1 (grid0.coords t) == 1#1)) = _
  rw [Bool.eq_iff_iff]; simp [cond1_iff]
/-- A window is idle where its condition does not hold. -/
theorem idle_4 (t : Fin cfg0.N) : cfg0.idle 4 (cfg0.grid.coords t) = !decide (t.val % 6 = 2) := by
  show (!(k0_cond2 (grid0.coords t) == 1#1)) = _
  rw [Bool.eq_iff_iff]; simp [cond2_iff]
/-- A window is idle where its condition does not hold. -/
theorem idle_5 (t : Fin cfg0.N) : cfg0.idle 5 (cfg0.grid.coords t) = !decide (t.val % 96 = 94) := by
  show (!(k0_cond3 (grid0.coords t) == 1#1)) = _
  rw [Bool.eq_iff_iff]; simp [cond3_iff]
/-- A window is idle where its condition does not hold. -/
theorem idle_6 (t : Fin cfg0.N) : cfg0.idle 6 (cfg0.grid.coords t) = !decide (t.val % 96 = 95) := by
  show (!(k0_cond4 (grid0.coords t) == 1#1)) = _
  rw [Bool.eq_iff_iff]; simp [cond4_iff]

/-- Where a window is written back. -/
theorem flush_3 (t : Fin cfg0.N) : (cfg0.win 3).flush t = decide (t.val % 6 = 5) := by
  rw [Bool.eq_iff_iff, flush0_3]; simp
/-- Where a window is written back. -/
theorem flush_4 (t : Fin cfg0.N) : (cfg0.win 4).flush t = decide (t.val % 6 = 5) := by
  rw [Bool.eq_iff_iff, flush0_4]; simp
/-- Where a window is written back. -/
theorem flush_5 (t : Fin cfg0.N) : (cfg0.win 5).flush t = decide (t.val % 96 = 95) := by
  rw [Bool.eq_iff_iff, flush0_5]; simp
/-- Where a window is written back. -/
theorem flush_6 (t : Fin cfg0.N) : (cfg0.win 6).flush t = decide (t.val % 96 = 95) := by
  rw [Bool.eq_iff_iff, flush0_6]; simp

/-- Where the buffer of a window holds nothing stored yet. -/
theorem fresh_3 (t : Fin cfg0.N) : cfg0.fresh 3 t.val = decide (t.val % 6 ≤ 1) :=
  Cfg.fresh_tab cfg0 3 (fun n => decide (n % 6 ≤ 1)) (by decide) (fun t => by
    rw [idle_3, flush_3, Bool.eq_iff_iff]; simp; omega) t.val (Nat.le_of_lt t.isLt)
/-- Where the buffer of a window holds nothing stored yet. -/
theorem fresh_4 (t : Fin cfg0.N) : cfg0.fresh 4 t.val = decide (t.val % 6 ≤ 2) :=
  Cfg.fresh_tab cfg0 4 (fun n => decide (n % 6 ≤ 2)) (by decide) (fun t => by
    rw [idle_4, flush_4, Bool.eq_iff_iff]; simp; omega) t.val (Nat.le_of_lt t.isLt)
/-- Where the buffer of a window holds nothing stored yet. -/
theorem fresh_5 (t : Fin cfg0.N) : cfg0.fresh 5 t.val = decide (t.val % 96 ≤ 94) :=
  Cfg.fresh_tab cfg0 5 (fun n => decide (n % 96 ≤ 94)) (by decide) (fun t => by
    rw [idle_5, flush_5, Bool.eq_iff_iff]; simp; omega) t.val (Nat.le_of_lt t.isLt)

/-! ## The proof data -/

/-- The arrays as the region finds them; after the body each input's block where it was, each output's the product of the
    inputs' blocks at the point that stores it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 0 t) (iblk m c 1 t)
    | ⟨3, _⟩ => k0_pay3 (iblk m c 0 (rowPt 1 (by decide) t)) (iblk m c 1 (rowPt 1 (by decide) t))
    | ⟨4, _⟩ => k0_pay4 (iblk m c 0 (rowPt 2 (by decide) t)) (iblk m c 1 (rowPt 2 (by decide) t))
    | ⟨5, _⟩ => k0_pay5 (iblk m c 0 (seqPt 94 (by decide) t)) (iblk m c 1 (seqPt 94 (by decide) t))
    | ⟨6, _⟩ => k0_pay6 (iblk m c 0 (seqPt 95 (by decide) t)) (iblk m c 1 (seqPt 95 (by decide) t))
  Φ _ := Pipeline.ΦA spec0 c
  q _ := fullShare
  owed _ := 0

/-- The array of a window before the call. -/
theorem A_eq (c : Dev nD) (w : Fin cfg0.W) : (dats m 0 c).A w = V m c (Pipeline.arrRef spec0 w) := by
  dsimp only [dats]

/-- What a window holds after a step. -/
theorem after_0 (c : Dev nD) (t : Fin cfg0.N) : (dats m 0 c).after 0 t = iblk m c 0 t := by dsimp only [dats]
/-- What a window holds after a step. -/
theorem after_1 (c : Dev nD) (t : Fin cfg0.N) : (dats m 0 c).after 1 t = iblk m c 1 t := by dsimp only [dats]
/-- What a window holds after a step. -/
theorem after_2 (c : Dev nD) (t : Fin cfg0.N) : (dats m 0 c).after 2 t = k0_pay2 (iblk m c 0 t) (iblk m c 1 t) := by dsimp only [dats]
/-- What a window holds after a step. -/
theorem after_3 (c : Dev nD) (t : Fin cfg0.N) : (dats m 0 c).after 3 t = k0_pay3 (iblk m c 0 (rowPt 1 (by decide) t)) (iblk m c 1 (rowPt 1 (by decide) t)) := by dsimp only [dats]
/-- What a window holds after a step. -/
theorem after_4 (c : Dev nD) (t : Fin cfg0.N) : (dats m 0 c).after 4 t = k0_pay4 (iblk m c 0 (rowPt 2 (by decide) t)) (iblk m c 1 (rowPt 2 (by decide) t)) := by dsimp only [dats]
/-- What a window holds after a step. -/
theorem after_5 (c : Dev nD) (t : Fin cfg0.N) : (dats m 0 c).after 5 t = k0_pay5 (iblk m c 0 (seqPt 94 (by decide) t)) (iblk m c 1 (seqPt 94 (by decide) t)) := by dsimp only [dats]
/-- What a window holds after a step. -/
theorem after_6 (c : Dev nD) (t : Fin cfg0.N) : (dats m 0 c).after 6 t = k0_pay6 (iblk m c 0 (seqPt 95 (by decide) t)) (iblk m c 1 (seqPt 95 (by decide) t)) := by dsimp only [dats]

/-- What an input window holds before a step. -/
theorem before_0 (c : Dev nD) (t : Fin cfg0.N) (d) : (dats m 0 c).before 0 t d = iblk m c 0 t :=
  before0_0_of m (dats m 0 c) (A_eq m c 0) (after_0 m c) t d
/-- What an input window holds before a step. -/
theorem before_1 (c : Dev nD) (t : Fin cfg0.N) (d) : (dats m 0 c).before 1 t d = iblk m c 1 t :=
  before0_1_of m (dats m 0 c) (A_eq m c 1) (after_1 m c) t d

/-- Two points of one row tile have the same point of it with column tile `j`. -/
theorem rowPt_pred (j : ℕ) (hj : j < 6) (t : Fin cfg0.N) (h : t.val % 6 ≠ 0) (h' : t.val - 1 < cfg0.N) :
    rowPt j hj t = rowPt j hj ⟨t.val - 1, h'⟩ := Fin.ext (by show _ - _ + _ = _ - _ + _; simp only; omega)
/-- Two points of one sequence have the same `j`-th point of it. -/
theorem seqPt_pred (j : ℕ) (hj : j < 96) (t : Fin cfg0.N) (h : t.val % 96 ≠ 0) (h' : t.val - 1 < cfg0.N) :
    seqPt j hj t = seqPt j hj ⟨t.val - 1, h'⟩ := Fin.ext (by show _ - _ + _ = _ - _ + _; simp only; omega)

/-- A further output's buffer at the point that writes it back holds what was stored. -/
theorem keep_3 (c : Dev nD) (t : Fin cfg0.N) (h : t.val % 6 = 5) (d) : (dats m 0 c).before 3 t d = (dats m 0 c).after 3 t := by
  rw [(dats m 0 c).before_out_traj 3 rfl (fun _ _ => rfl) (fun t h0 hi hf => ?_) t.val t rfl d, fresh_3,
    if_neg (by simp; omega), after_3, after_3, rowPt_pred 1 _ t (by omega)]
  rw [idle_3] at hi; rw [fresh_3] at hf; simp at hi hf
  rw [after_3, after_3, rowPt_pred 1 _ t (by omega)]
/-- A further output's buffer at the point that writes it back holds what was stored. -/
theorem keep_4 (c : Dev nD) (t : Fin cfg0.N) (h : t.val % 6 = 5) (d) : (dats m 0 c).before 4 t d = (dats m 0 c).after 4 t := by
  rw [(dats m 0 c).before_out_traj 4 rfl (fun _ _ => rfl) (fun t h0 hi hf => ?_) t.val t rfl d, fresh_4,
    if_neg (by simp; omega), after_4, after_4, rowPt_pred 2 _ t (by omega)]
  rw [idle_4] at hi; rw [fresh_4] at hf; simp at hi hf
  rw [after_4, after_4, rowPt_pred 2 _ t (by omega)]
/-- A further output's buffer at the point that writes it back holds what was stored. -/
theorem keep_5 (c : Dev nD) (t : Fin cfg0.N) (h : t.val % 96 = 95) (d) : (dats m 0 c).before 5 t d = (dats m 0 c).after 5 t := by
  rw [(dats m 0 c).before_out_traj 5 rfl (fun _ _ => rfl) (fun t h0 hi hf => ?_) t.val t rfl d, fresh_5,
    if_neg (by simp; omega), after_5, after_5, seqPt_pred 94 _ t (by omega)]
  rw [idle_5] at hi; rw [fresh_5] at hf; simp at hi hf
  rw [after_5, after_5, seqPt_pred 94 _ t (by omega)]

/-! ## The body at a point -/

/-- A window's buffer as the body leaves it: at what is stored where it is stored, else as it was found. -/
theorem leave (c : Dev nD) (w : Fin cfg0.W) (t : Fin cfg0.N) (d) (X : (cfg0.win w).block.Idx → Elt F (cfg0.win w).elt)
    (hl : cfg0.idle w (cfg0.grid.coords t) = false → X = (dats m 0 c).after w t)
    (hk : cfg0.idle w (cfg0.grid.coords t) = true → X = (dats m 0 c).before w t d)
    (hf : cfg0.idle w (cfg0.grid.coords t) = true → (cfg0.win w).flush t = true → X = (dats m 0 c).after w t) :
    (owns (c : Thread nD τ) ((cfg0.win w).stage (cfg0.slots t w)) fullShare X : sProp 𝕄) ⊢ (dats m 0 c).leavesExact w t := by
  unfold Dat.leavesExact
  cases hi : cfg0.idle w (cfg0.grid.coords t)
  · rw [hl hi]
  · cases hb : (cfg0.win w).flush t
    · rw [hk hi]; simp only; iintro H; iexists d; iexact H
    · rw [hf hi hb]

/-- What the body is called with at point `t`, -/
def ptPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def ptPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t ∗ (dats m 0 c).leavesExact 5 t ∗ (dats m 0 c).leavesExact 6 t)

/-- The point that stores a window's block, seen from itself. -/
theorem rowPt_self (j : ℕ) (hj : j < 6) (t : Fin cfg0.N) (h : t.val % 6 = j) : rowPt j hj t = t :=
  Fin.ext (by show _ - _ + _ = _; omega)
/-- The point that stores a window's block, seen from itself. -/
theorem seqPt_self (j : ℕ) (hj : j < 96) (t : Fin cfg0.N) (h : t.val % 96 = j) : seqPt j hj t = t :=
  Fin.ext (by show _ - _ + _ = _; omega)

/-- What the body leaves in a further output's buffer. -/
theorem leave_3 (c : Dev nD) (t : Fin cfg0.N) (d) :
    (owns (c : Thread nD τ) (st0_3 t) fullShare (if k0_cond1 (grid0.coords t) = 1#1 then k0_pay3 (iblk m c 0 t) (iblk m c 1 t)
      else (dats m 0 c).before 3 t d) : sProp 𝕄) ⊢ (dats m 0 c).leavesExact 3 t := by
  refine leave m c 3 t d _ (fun h => ?_) (fun h => ?_) (fun h hb => ?_)
  · rw [idle_3] at h; simp at h; rw [if_pos ((cond1_iff t).mpr h), after_3, rowPt_self 1 _ t h]
  · rw [idle_3] at h; simp at h; rw [if_neg (fun e => h ((cond1_iff t).mp e))]
  · rw [idle_3] at h; rw [flush_3] at hb; simp at h hb; rw [if_neg (fun e => h ((cond1_iff t).mp e)), keep_3 m c t hb]
/-- What the body leaves in a further output's buffer. -/
theorem leave_4 (c : Dev nD) (t : Fin cfg0.N) (d) :
    (owns (c : Thread nD τ) (st0_4 t) fullShare (if k0_cond2 (grid0.coords t) = 1#1 then k0_pay4 (iblk m c 0 t) (iblk m c 1 t)
      else (dats m 0 c).before 4 t d) : sProp 𝕄) ⊢ (dats m 0 c).leavesExact 4 t := by
  refine leave m c 4 t d _ (fun h => ?_) (fun h => ?_) (fun h hb => ?_)
  · rw [idle_4] at h; simp at h; rw [if_pos ((cond2_iff t).mpr h), after_4, rowPt_self 2 _ t h]
  · rw [idle_4] at h; simp at h; rw [if_neg (fun e => h ((cond2_iff t).mp e))]
  · rw [idle_4] at h; rw [flush_4] at hb; simp at h hb; rw [if_neg (fun e => h ((cond2_iff t).mp e)), keep_4 m c t hb]
/-- What the body leaves in a further output's buffer. -/
theorem leave_5 (c : Dev nD) (t : Fin cfg0.N) (d) :
    (owns (c : Thread nD τ) (st0_5 t) fullShare (if k0_cond3 (grid0.coords t) = 1#1 then k0_pay5 (iblk m c 0 t) (iblk m c 1 t)
      else (dats m 0 c).before 5 t d) : sProp 𝕄) ⊢ (dats m 0 c).leavesExact 5 t := by
  refine leave m c 5 t d _ (fun h => ?_) (fun h => ?_) (fun h hb => ?_)
  · rw [idle_5] at h; simp at h; rw [if_pos ((cond3_iff t).mpr h), after_5, seqPt_self 94 _ t h]
  · rw [idle_5] at h; simp at h; rw [if_neg (fun e => h ((cond3_iff t).mp e))]
  · rw [idle_5] at h; rw [flush_5] at hb; simp at h hb; rw [if_neg (fun e => h ((cond3_iff t).mp e)), keep_5 m c t hb]
/-- What the body leaves in a further output's buffer. -/
theorem leave_6 (c : Dev nD) (t : Fin cfg0.N) (d) :
    (owns (c : Thread nD τ) (st0_6 t) fullShare (if k0_cond4 (grid0.coords t) = 1#1 then k0_pay6 (iblk m c 0 t) (iblk m c 1 t)
      else (dats m 0 c).before 6 t d) : sProp 𝕄) ⊢ (dats m 0 c).leavesExact 6 t := by
  refine leave m c 6 t d _ (fun h => ?_) (fun h => ?_) (fun h hb => ?_)
  · rw [idle_6] at h; simp at h; rw [if_pos ((cond4_iff t).mpr h), after_6, seqPt_self 95 _ t h]
  · rw [idle_6] at h; simp at h; rw [if_neg (fun e => h ((cond4_iff t).mp e))]
  · rw [idle_6] at h; rw [flush_6] at hb; simp at h hb; exact absurd hb h

/-- The body at any point of the grid. -/
theorem sound_body (c : Dev nD) (t : Fin cfg0.N) :
    ptPre m c t ⊢ wp frame (wpE (defs₀ (F := F)) noVar (c : Thread nD τ) none) Set.univ (bodyAt0 t) (fun _ => ptPost m c t) := by
  unfold ptPre ptPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2]
  iintro ⟨HP, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) ((dats m 0 c).before 3 t d3) ((dats m 0 c).before 4 t d4) ((dats m 0 c).before 5 t d5) ((dats m 0 c).before 6 t d6) _)
  isplitl [H0]; · iexact H0
  isplitl [H1]; · iexact H1
  isplitl [H2]; · iexists _; iexact H2
  isplitl [H3]; · iexact H3
  isplitl [H4]; · iexact H4
  isplitl [H5]; · iexact H5
  isplitl [H6]; · iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iapply (leave_3 m c t d3); iexact H3
  isplitl [H4]; · iapply (leave_4 m c t d4); iexact H4
  isplitl [H5]; · iapply (leave_5 m c t d5); iexact H5
  iapply (leave_6 m c t d6); iexact H6

/-- The body that a grid step runs. -/
theorem defs₀_row (t : Fin cfg0.N) :
    defs₀ (F := F) .tc cfg0.body (cfg0.bodyArgs t (cfg0.slots t)) = bodyAt0 t := by
  unfold defs₀; rw [Defs.onTc_tc]

/-- Every grid step keeps its part of the call's specification. -/
theorem body_obligation (c : Dev nD) : BodyObligation (dats (F := F) m 0 c) (defs₀ (F := F)) noVar () Set.univ := fun t => by
  rw [bigSep_W0, bigSep_W0, defs₀_row]
  exact triple_restated (sound_body m c t) rfl .rfl fun _ => .rfl

/-! ## The run -/

set_option backward.isDefEq.respectTransparency.types false in
/-- Every run of @main ends, with each array of the pipeline at what the proof data say, every other array as the region
    found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ noVar m ρ main
    (hbody := fun c => (body_obligation m c).loose) (hshare := fun c w => by unfold Dat.share; split <;> rfl)
    (howed := fun _ _ => rfl) (V := V m) (hmain := hmain m noVar) (hA := A_eq m) (hΦ := fun _ _ => rfl)

/-- The arguments end unchanged and every counter is zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Even
end
-- ==== Proof.EvenFrame.lean ====
/-
  The frames of the input projection's programs. The kernel's two have one text, so the run at machine words is the run of
  the printed kernel.
-/
module

public import proofs.«01_k».proof.Proof.EvenRun
public import proofs.«01_k».proof.Proof.Gen.Kernel2
public import proofs.«01_k».proof.Proof.Gen.Reference2Ideal.Run
public import proofs.«01_k».proof.Defs
public import Idealize.ShloMosaic.Lib.Quiescent

@[expose] public section

noncomputable section

namespace Cert.Proof.Even

open Idealize.ShloMosaic Idealize.SL.Sem

set_option smartUnfolding false in
/-- The projection as printed: it ends, its arguments as they were, every counter at zero. -/
theorem frame_kernel : Cert.quiescent_Kernel2 (hKernel2 := Cert.Kernel2.Gen.facts) := fun m ρ _ =>
  (θ_run (Cert.Kernel2Ideal.defs (F := Bits)) _ _).mono (fun _ h => h) (run_frame (F := Bits) m ρ)

/-- The ideal projection: the same. -/
theorem frame_kernelIdeal : Cert.quiescent_Kernel2Ideal (hKernel2Ideal := Cert.Kernel2Ideal.Gen.facts) := fun m ρ _ =>
  run_frame (F := Ideal) m ρ

/-- The reference ends with its arguments as they were; it declares no counter, so every counter reads zero. -/
theorem frame_reference : Cert.quiescent_Reference2Ideal (hReference2Ideal := Cert.Reference2Ideal.Gen.facts) := fun m ρ _ =>
  (θ_run Cert.Reference2Ideal.defs _ _).mono
    (fun r h => ⟨fun c => ⟨(h c).2.2.2.2.2.1, (h c).2.2.2.2.2.2⟩, Idealize.ShloMosaic.sem_eq_zero_of_no_sems (by decide) r.2⟩)
    (Cert.Reference2Ideal.Value.run (F := Ideal) m ρ)

end Cert.Proof.Even
end
-- ==== Proof.EvenHost.lean ====
/-
  The windows of the input projection's call, read back to the arguments, and the products they give.
-/
module

public import proofs.«01_k».proof.Proof.EvenRun
public import proofs.«01_k».proof.Proof.Softmax
public import Idealize.ShloMosaic.Lib.Pipeline.ValueKit
public import Idealize.ShloMosaic.Lib.Claim
public import Idealize.ShloMosaic.Lib.StableHlo.Run

@[expose] public section

set_option maxRecDepth 16384

noncomputable section

namespace Cert.Proof.Even

open Cert.Kernel2Ideal Cert.Kernel2Ideal.Gen
open Idealize.ShloMosaic Idealize.ShloMosaic.TcCoe

/-- The queries' factor, as a number. -/
def qs : ℝ := 4278775 / 33554432

/-- The queries' factor is positive. -/
theorem qs_pos : 0 < qs := by unfold qs; norm_num

/-- The word of the queries' factor. -/
theorem ofBits_qs : Ideal.ofBits .f32 0x3E0293EE#32 = ((qs : ℝ) : EReal) := by
  unfold qs
  simp [Ideal.ofBits, Ideal.ieee, -EReal.coe_mul]; norm_num

/-- The column of the projection's weights that column `n` of the joined result is made of: the eight forget columns are
    passed over. -/
def col (n : Fin 6144) : Fin 6152 := if n.val < 3072 then ⟨n.val, by omega⟩ else ⟨n.val + 8, by omega⟩

/-- The joined projections, from hidden states and weights: the queries' columns at their factor. -/
def proj (h : Fin 2 → Fin 16384 → Fin 2048 → EReal) (w : Fin 2048 → Fin 6152 → EReal) (b : Fin 2) (s : Fin 16384) (n : Fin 6144) : EReal :=
  if n.val / 1024 % 3 = 0 then (∑ k : Fin 2048, h b s k * w k (col n)) * (qs : EReal) else ∑ k : Fin 2048, h b s k * w k (col n)

/-- A factor on the weights is one on the product. -/
theorem sum_factor (f g : Fin 2048 → EReal) : (∑ k, f k * (g k * (qs : EReal))) = (∑ k, f k * g k) * (qs : EReal) := by
  rw [mul_comm _ (qs : EReal), Flash.coe_mul_sum qs_pos.le]
  refine Finset.sum_congr rfl fun k _ => ?_
  rw [← mul_assoc, mul_comm]

/-- The product of a row tile and a column tile, at an element. -/
theorem pay1_apply (x : FVec Ideal S1x1024x2048 .bf16) (w : FVec Ideal S1x2048x1024 .bf16) (r e : Fin 1024) :
    k0_pay1 (F := Ideal) x w (ix2 r e) = ∑ k : Fin 2048, x (ix3 0 r k) * w (ix3 0 k e) := by
  pointwise [k0_pay1]

/-- What is stored into the joined result, -/
theorem pay2_apply (x : FVec Ideal S1x1024x2048 .bf16) (w : FVec Ideal S1x2048x1024 .bf16) (r e : Fin 1024) :
    k0_pay2 (F := Ideal) x w (ix3 0 r e) = k0_pay1 (F := Ideal) x w (ix2 r e) := by
  pointwise [k0_pay2]
/-- into the first keys, -/
theorem pay3_apply (x : FVec Ideal S1x1024x2048 .bf16) (w : FVec Ideal S1x2048x1024 .bf16) (r e : Fin 1024) :
    k0_pay3 (F := Ideal) x w (ix3 0 r e) = k0_pay1 (F := Ideal) x w (ix2 r e) := by
  pointwise [k0_pay3]
/-- the first values, -/
theorem pay4_apply (x : FVec Ideal S1x1024x2048 .bf16) (w : FVec Ideal S1x2048x1024 .bf16) (r e : Fin 1024) :
    k0_pay4 (F := Ideal) x w (ix3 0 r e) = k0_pay1 (F := Ideal) x w (ix2 r e) := by
  pointwise [k0_pay4]
/-- the second keys, -/
theorem pay5_apply (x : FVec Ideal S1x1024x2048 .bf16) (w : FVec Ideal S1x2048x1024 .bf16) (r : Fin 512) (e : Fin 1024) :
    k0_pay5 (F := Ideal) x w (ix3 0 r e) = k0_pay1 (F := Ideal) x w (ix2 ⟨512 + r.val, by omega⟩ e) := by
  pointwise [k0_pay5]
/-- and the second values. -/
theorem pay6_apply (x : FVec Ideal S1x1024x2048 .bf16) (w : FVec Ideal S1x2048x1024 .bf16) (r : Fin 512) (e : Fin 1024) :
    k0_pay6 (F := Ideal) x w (ix3 0 r e) = k0_pay1 (F := Ideal) x w (ix2 ⟨512 + r.val, by omega⟩ e) := by
  pointwise [k0_pay6]

variable (m : (ℓ : Loc nD τ sig) → Buf (Elt Ideal) ℓ) (c : Dev nD)

/-- The hidden states, by coordinates. -/
abbrev hA : Fin 2 → Fin 16384 → Fin 2048 → EReal := fun b s k => m ((c : Thread nD τ).loc main_arg0) (ix3 b s k)
/-- The weights, by coordinates. -/
abbrev wA : Fin 2048 → Fin 6152 → EReal := fun k n => m ((c : Thread nD τ).loc main_arg1) (ix2 k n)

/-- The hidden states, as the call takes them. -/
theorem V_h (b : Fin 2) (s : Fin 16384) (k : Fin 2048) : V m c main_v11 (ix3 b s k) = hA m c b s k := by
  entry_read
  pointwise

/-- The queries' columns of the weights at their factor. -/
def qcols (off : Fin 2 → ℕ) (w : FVec Ideal S2048x6152 .f32) (h : S2048x6152.Slices off S2048x1024) : FVec Ideal S2048x1024 .f32 :=
  mulf (extractStridedSlice S2048x1024 off w h) (broadcastInDim S2048x1024 ![] bcast_S_S2048x1024 (constant S_ .f32 0x3E0293EE#32))

/-- The parts of the joined weights. -/
def parts (w : FVec Ideal S2048x6152 .f32) : List ((s : Shape) × (s.Idx → EReal)) :=
  [⟨S2048x1024, qcols ![0, 0] w slices_S2048x6152_S2048x1024_0_0⟩,
    ⟨S2048x2048, extractStridedSlice S2048x2048 ![0, 1024] w slices_S2048x6152_S2048x2048_0_1024⟩,
    ⟨S2048x1024, qcols ![0, 3080] w slices_S2048x6152_S2048x1024_0_3080⟩,
    ⟨S2048x2048, extractStridedSlice S2048x2048 ![0, 4104] w slices_S2048x6152_S2048x2048_0_4104⟩]

/-- The joined weights. -/
def joined (w : FVec Ideal S2048x6152 .f32) : FVec Ideal S2048x6144 .f32 :=
  concatenate S2048x6144 1 (parts w) concatenates_S2048x1024_S2048x2048_S2048x1024_S2048x2048_S2048x6144_d1

/-- The weights as the call takes them are the joined ones. -/
theorem V_v10 : V m c main_v10 = broadcastInDim S1x2048x6144 ![1, 2] bcast_S2048x6144_S1x2048x6144_1_2
    (truncf .bf16 (joined (m ((c : Thread nD τ).loc main_arg1))) bitsLt_bf16_f32) := by
  open StableHlo in after_results <;> rfl

/-- The joined weights, part by part: the first queries', -/
theorem joined_0 (w : FVec Ideal S2048x6152 .f32) (k : Fin 2048) (e : Fin 1024) :
    joined w (ix2 k ⟨0 + e.val, by omega⟩) = w (ix2 k ⟨0 + e.val, by omega⟩) * Ideal.ofBits .f32 0x3E0293EE#32 := by
  unfold joined
  refine Eq.trans (concatenate_apply_piece (t := S2048x6144) 1 (parts w) _ _ 0 (show 0 < 4 by decide) S2048x1024 _ rfl rfl 0 rfl (ix2 k e) (fun b hb => ?_) ?_) ?_
  · fin_cases b
    · rfl
    · exact absurd rfl hb
  · rfl
  · pointwise [qcols]
/-- the first keys' and values', -/
theorem joined_1 (w : FVec Ideal S2048x6152 .f32) (k : Fin 2048) (e : Fin 2048) :
    joined w (ix2 k ⟨1024 + e.val, by omega⟩) = w (ix2 k ⟨1024 + e.val, by omega⟩) := by
  unfold joined
  refine Eq.trans (concatenate_apply_piece (t := S2048x6144) 1 (parts w) _ _ 1 (show 1 < 4 by decide) S2048x2048 _ rfl rfl 1024 rfl (ix2 k e) (fun b hb => ?_) ?_) ?_
  · fin_cases b
    · rfl
    · exact absurd rfl hb
  · rfl
  · pointwise [qcols]
/-- the second queries', -/
theorem joined_2 (w : FVec Ideal S2048x6152 .f32) (k : Fin 2048) (e : Fin 1024) :
    joined w (ix2 k ⟨3072 + e.val, by omega⟩) = w (ix2 k ⟨3080 + e.val, by omega⟩) * Ideal.ofBits .f32 0x3E0293EE#32 := by
  unfold joined
  refine Eq.trans (concatenate_apply_piece (t := S2048x6144) 1 (parts w) _ _ 2 (show 2 < 4 by decide) S2048x1024 _ rfl rfl 3072 rfl (ix2 k e) (fun b hb => ?_) ?_) ?_
  · fin_cases b
    · rfl
    · exact absurd rfl hb
  · rfl
  · pointwise [qcols]
/-- and the second keys' and values'. -/
theorem joined_3 (w : FVec Ideal S2048x6152 .f32) (k : Fin 2048) (e : Fin 2048) :
    joined w (ix2 k ⟨4096 + e.val, by omega⟩) = w (ix2 k ⟨4104 + e.val, by omega⟩) := by
  unfold joined
  refine Eq.trans (concatenate_apply_piece (t := S2048x6144) 1 (parts w) _ _ 3 (show 3 < 4 by decide) S2048x2048 _ rfl rfl 4096 rfl (ix2 k e) (fun b hb => ?_) ?_) ?_
  · fin_cases b
    · rfl
    · exact absurd rfl hb
  · rfl
  · pointwise [qcols]
/-- The joined weights at a column. -/
theorem joined_apply (w : FVec Ideal S2048x6152 .f32) (k : Fin 2048) (n : Fin 6144) :
    joined w (ix2 k n) = if n.val / 1024 % 3 = 0 then w (ix2 k (col n)) * (qs : EReal) else w (ix2 k (col n)) := by
  have hn := n.isLt
  unfold col
  by_cases h1 : n.val < 1024
  · rw [if_pos (by omega), if_pos (by omega), ← ofBits_qs]
    have e : n = ⟨0 + (n.val - 0), by omega⟩ := Fin.ext (by simp only; omega)
    refine (congrArg (fun n => joined w (ix2 k n)) e).trans ((joined_0 w k ⟨n.val - 0, by omega⟩).trans ?_)
    exact congrArg (fun n => w (ix2 k n) * Ideal.ofBits .f32 0x3E0293EE#32) (Fin.ext (by simp only; omega))
  by_cases h2 : n.val < 3072
  · rw [if_neg (by omega), if_pos h2]
    have e : n = ⟨1024 + (n.val - 1024), by omega⟩ := Fin.ext (by simp only; omega)
    refine (congrArg (fun n => joined w (ix2 k n)) e).trans ((joined_1 w k ⟨n.val - 1024, by omega⟩).trans ?_)
    exact congrArg (fun n => w (ix2 k n)) (Fin.ext (by simp only; omega))
  by_cases h3 : n.val < 4096
  · rw [if_pos (by omega), if_neg h2, ← ofBits_qs]
    have e : n = ⟨3072 + (n.val - 3072), by omega⟩ := Fin.ext (by simp only; omega)
    refine (congrArg (fun n => joined w (ix2 k n)) e).trans ((joined_2 w k ⟨n.val - 3072, by omega⟩).trans ?_)
    exact congrArg (fun n => w (ix2 k n) * Ideal.ofBits .f32 0x3E0293EE#32) (Fin.ext (by simp only; omega))
  · rw [if_neg (by omega), if_neg h2]
    have e : n = ⟨4096 + (n.val - 4096), by omega⟩ := Fin.ext (by simp only; omega)
    refine (congrArg (fun n => joined w (ix2 k n)) e).trans ((joined_3 w k ⟨n.val - 4096, by omega⟩).trans ?_)
    exact congrArg (fun n => w (ix2 k n)) (Fin.ext (by simp only; omega))

/-- The weights as the call takes them, at a column. -/
theorem V_w (k : Fin 2048) (n : Fin 6144) :
    V m c main_v10 (ix3 0 k n) = if n.val / 1024 % 3 = 0 then wA m c k (col n) * (qs : EReal) else wA m c k (col n) := by
  refine Eq.trans ?_ (joined_apply _ k n)
  rw [V_v10]
  pointwise

/-- The block of each window at each grid step. -/
theorem idx : ∀ t : Fin cfg0.N, win0_0.index t = ![t.val / 96, t.val / 6 % 16, 0] ∧ win0_1.index t = ![0, 0, t.val % 6]
    ∧ win0_2.index t = ![t.val / 96, t.val / 6 % 16, t.val % 6] ∧ win0_3.index t = ![t.val / 96, t.val / 6 % 16, 0]
    ∧ win0_4.index t = ![t.val / 96, t.val / 6 % 16, 0] ∧ win0_5.index t = ![t.val / 96, 0, 0] ∧ win0_6.index t = ![t.val / 96, 0, 0] :=
  (by decide +kernel : ∀ t : Fin grid0.N, _)

/-- There are 192 grid steps. -/
theorem lt_N (t : Fin cfg0.N) : t.val < 192 := t.isLt

/-- The batch of a grid point, -/
abbrev bat (t : Fin cfg0.N) : Fin 2 := ⟨t.val / 96, by have := lt_N t; omega⟩
/-- a row of its row tile, -/
abbrev row (t : Fin cfg0.N) (r : Fin 1024) : Fin 16384 := ⟨1024 * (t.val / 6 % 16) + r.val, by omega⟩
/-- and a column of its column tile. -/
abbrev column (t : Fin cfg0.N) (e : Fin 1024) : Fin 6144 := ⟨1024 * (t.val % 6) + e.val, by omega⟩

/-- The first window holds a row tile of the hidden states, -/
theorem blk_h (t : Fin cfg0.N) (r : Fin 1024) (k : Fin 2048) : iblk m c 0 t (ix3 0 r k) = hA m c (bat t) (row t r) k := by
  have hN := lt_N t
  refine Eq.trans ?_ (V_h m c (bat t) (row t r) k)
  blk_simp [iblk, idx t]
  blk_ext [idx t]

/-- the second a column tile of the weights. -/
theorem blk_w (t : Fin cfg0.N) (k : Fin 2048) (e : Fin 1024) :
    iblk m c 1 t (ix3 0 k e) = if (column t e).val / 1024 % 3 = 0 then wA m c k (col (column t e)) * (qs : EReal) else wA m c k (col (column t e)) := by
  have hN := lt_N t
  refine Eq.trans ?_ (V_w m c k (column t e))
  blk_simp [iblk, idx t]
  blk_ext [idx t]

/-- The product at a grid point is that tile of the joined projections. -/
theorem tile_value (t : Fin cfg0.N) (r e : Fin 1024) :
    k0_pay1 (F := Ideal) (iblk m c 0 t) (iblk m c 1 t) (ix2 r e) = proj (hA m c) (wA m c) (bat t) (row t r) (column t e) := by
  refine (pay1_apply _ _ r e).trans ?_
  simp only [blk_h, blk_w]
  unfold proj
  by_cases h : (column t e).val / 1024 % 3 = 0
  · simp only [if_pos h]; exact sum_factor _ _
  · simp only [if_neg h]

end Cert.Proof.Even
end
-- ==== Proof.EvenOut.lean ====
/-
  The result arrays of the input projection's call: the joined projections, and parts of them.
-/
module

public import proofs.«01_k».proof.Proof.EvenHost
public import Idealize.ShloMosaic.Lib.Pipeline.Covers

@[expose] public section

set_option maxRecDepth 16384

noncomputable section

namespace Cert.Proof.Even

open Cert.Kernel2Ideal Cert.Kernel2Ideal.Gen
open Idealize.ShloMosaic Idealize.ShloMosaic.TcCoe

/-- The joined projections as an array, -/
def GZ (h : Fin 2 → Fin 16384 → Fin 2048 → EReal) (w : Fin 2048 → Fin 6152 → EReal) : S2x16384x6144.Idx → EReal :=
  fun y => proj h w (y 0) (y 1) (y 2)
/-- 1024 columns of them from column `o` on, -/
def GC (o : ℕ) (ho : o ≤ 5120) (h : Fin 2 → Fin 16384 → Fin 2048 → EReal) (w : Fin 2048 → Fin 6152 → EReal) : S2x16384x1024.Idx → EReal :=
  fun y => proj h w (y 0) (y 1) ⟨o + (y 2).val, by have : (y 2).val < 1024 := (y 2).isLt; omega⟩
/-- and the last 512 rows of those. -/
def GT (o : ℕ) (ho : o ≤ 5120) (h : Fin 2 → Fin 16384 → Fin 2048 → EReal) (w : Fin 2048 → Fin 6152 → EReal) : S2x512x1024.Idx → EReal :=
  fun y => proj h w (y 0) ⟨15872 + (y 1).val, by have : (y 1).val < 512 := (y 1).isLt; omega⟩
    ⟨o + (y 2).val, by have : (y 2).val < 1024 := (y 2).isLt; omega⟩

/-- The joined projections at equal coordinates. -/
theorem proj_congr (h : Fin 2 → Fin 16384 → Fin 2048 → EReal) (w : Fin 2048 → Fin 6152 → EReal) {b b' : Fin 2} {s s' : Fin 16384} {n n' : Fin 6144}
    (hb : b.val = b'.val) (hs : s.val = s'.val) (hn : n.val = n'.val) : proj h w b s n = proj h w b' s' n' := by
  rw [Fin.ext hb, Fin.ext hs, Fin.ext hn]

variable (m : (ℓ : Loc nD τ sig) → Buf (Elt Ideal) ℓ) (c : Dev nD)

/-- The point of a row tile with column tile `j`, and its number. -/
theorem rowPt_val (j : ℕ) (hj : j < 6) (t : Fin cfg0.N) : (rowPt j hj t).val = t.val - t.val % 6 + j := rfl
/-- The `j`-th point of a sequence, and its number. -/
theorem seqPt_val (j : ℕ) (hj : j < 96) (t : Fin cfg0.N) : (seqPt j hj t).val = t.val - t.val % 96 + j := rfl

/-- The joined result ends holding the joined projections, -/
theorem final_2 : (dats m 0 c).arrAt 2 cfg0.N = GZ (hA m c) (wA m c) := by
  refine (dats m 0 c).arrAt_eq_of_covers 2 _ (by decide +kernel) fun t hf y => ?_
  have hN := lt_N t
  blk_simp
  rw [after_2]
  have y0 : (y 0).val < 1 := (y 0).isLt
  have hy : y = ix3 0 (y 1) (y 2) := by blk_ext []
  have e0 : ((((cfg0.win 2).blk t).view.emb y) 0).val = t.val / 96 + (y 0).val := by blk_simp [idx t]
  have e1 : ((((cfg0.win 2).blk t).view.emb y) 1).val = t.val / 6 % 16 * 1024 + (y 1).val := by blk_simp [idx t]
  have e2 : ((((cfg0.win 2).blk t).view.emb y) 2).val = t.val % 6 * 1024 + (y 2).val := by blk_simp [idx t]
  refine (congrArg _ hy).trans ((pay2_apply _ _ (y 1) (y 2)).trans ((tile_value m c t (y 1) (y 2)).trans ?_))
  unfold GZ
  generalize ((cfg0.win 2).blk t).view.emb y = z at *
  exact proj_congr _ _ (by simp only; omega) (by simp only; omega) (by simp only; omega)

/-- the first further result the columns from 1024 on, -/
theorem final_3 : (dats m 0 c).arrAt 3 cfg0.N = GC 1024 (by decide) (hA m c) (wA m c) := by
  refine (dats m 0 c).arrAt_eq_of_covers 3 _ (by decide +kernel) fun t hf y => ?_
  have hN := lt_N t
  blk_simp
  rw [after_3]
  have y0 : (y 0).val < 1 := (y 0).isLt
  have hy : y = ix3 0 (y 1) (y 2) := by blk_ext []
  have e0 : ((((cfg0.win 3).blk t).view.emb y) 0).val = t.val / 96 + (y 0).val := by blk_simp [idx t]
  have e1 : ((((cfg0.win 3).blk t).view.emb y) 1).val = t.val / 6 % 16 * 1024 + (y 1).val := by blk_simp [idx t]
  have e2 : ((((cfg0.win 3).blk t).view.emb y) 2).val = (y 2).val := by blk_simp [idx t]
  have hp := rowPt_val 1 (by decide) t
  refine (congrArg _ hy).trans ((pay3_apply _ _ (y 1) (y 2)).trans ((tile_value m c _ (y 1) (y 2)).trans ?_))
  unfold GC
  generalize ((cfg0.win 3).blk t).view.emb y = z at *
  exact proj_congr _ _ (by simp only; omega) (by simp only; omega) (by simp only; omega)

/-- the second those from 2048 on, -/
theorem final_4 : (dats m 0 c).arrAt 4 cfg0.N = GC 2048 (by decide) (hA m c) (wA m c) := by
  refine (dats m 0 c).arrAt_eq_of_covers 4 _ (by decide +kernel) fun t hf y => ?_
  have hN := lt_N t
  blk_simp
  rw [after_4]
  have y0 : (y 0).val < 1 := (y 0).isLt
  have hy : y = ix3 0 (y 1) (y 2) := by blk_ext []
  have e0 : ((((cfg0.win 4).blk t).view.emb y) 0).val = t.val / 96 + (y 0).val := by blk_simp [idx t]
  have e1 : ((((cfg0.win 4).blk t).view.emb y) 1).val = t.val / 6 % 16 * 1024 + (y 1).val := by blk_simp [idx t]
  have e2 : ((((cfg0.win 4).blk t).view.emb y) 2).val = (y 2).val := by blk_simp [idx t]
  have hp := rowPt_val 2 (by decide) t
  refine (congrArg _ hy).trans ((pay4_apply _ _ (y 1) (y 2)).trans ((tile_value m c _ (y 1) (y 2)).trans ?_))
  unfold GC
  generalize ((cfg0.win 4).blk t).view.emb y = z at *
  exact proj_congr _ _ (by simp only; omega) (by simp only; omega) (by simp only; omega)

/-- the third the last rows of those from 4096 on, -/
theorem final_5 : (dats m 0 c).arrAt 5 cfg0.N = GT 4096 (by decide) (hA m c) (wA m c) := by
  refine (dats m 0 c).arrAt_eq_of_covers 5 _ (by decide +kernel) fun t hf y => ?_
  have hN := lt_N t
  blk_simp
  rw [after_5]
  have y0 : (y 0).val < 1 := (y 0).isLt
  have hy : y = ix3 0 (y 1) (y 2) := by blk_ext []
  have e0 : ((((cfg0.win 5).blk t).view.emb y) 0).val = t.val / 96 + (y 0).val := by blk_simp [idx t]
  have e1 : ((((cfg0.win 5).blk t).view.emb y) 1).val = (y 1).val := by blk_simp [idx t]
  have e2 : ((((cfg0.win 5).blk t).view.emb y) 2).val = (y 2).val := by blk_simp [idx t]
  have hp := seqPt_val 94 (by decide) t
  refine (congrArg _ hy).trans ((pay5_apply _ _ (y 1) (y 2)).trans ((tile_value m c _ _ (y 2)).trans ?_))
  unfold GT
  generalize ((cfg0.win 5).blk t).view.emb y = z at *
  exact proj_congr _ _ (by simp only; omega) (by simp only; omega) (by simp only; omega)

/-- and the fourth the last rows of those from 5120 on. -/
theorem final_6 : (dats m 0 c).arrAt 6 cfg0.N = GT 5120 (by decide) (hA m c) (wA m c) := by
  refine (dats m 0 c).arrAt_eq_of_covers 6 _ (by decide +kernel) fun t hf y => ?_
  have hN := lt_N t
  blk_simp
  rw [after_6]
  have y0 : (y 0).val < 1 := (y 0).isLt
  have hy : y = ix3 0 (y 1) (y 2) := by blk_ext []
  have e0 : ((((cfg0.win 6).blk t).view.emb y) 0).val = t.val / 96 + (y 0).val := by blk_simp [idx t]
  have e1 : ((((cfg0.win 6).blk t).view.emb y) 1).val = (y 1).val := by blk_simp [idx t]
  have e2 : ((((cfg0.win 6).blk t).view.emb y) 2).val = (y 2).val := by blk_simp [idx t]
  have hp := seqPt_val 95 (by decide) t
  refine (congrArg _ hy).trans ((pay6_apply _ _ (y 1) (y 2)).trans ((tile_value m c _ _ (y 2)).trans ?_))
  unfold GT
  generalize ((cfg0.win 6).blk t).view.emb y = z at *
  exact proj_congr _ _ (by simp only; omega) (by simp only; omega) (by simp only; omega)

end Cert.Proof.Even
end
-- ==== Proof.EvenRef.lean ====
/-
  The results of the projection's reference read at an element, over the extended reals.
-/
module

public import proofs.«01_k».proof.Proof.Gen.Reference2Ideal.Run
public import proofs.«01_k».proof.Proof.EvenOut

@[expose] public section

set_option maxRecDepth 16384

noncomputable section

namespace Cert.Proof.Even

open Cert.Reference2Ideal Cert.Reference2Ideal.Gen
open Idealize.ShloMosaic Idealize.ShloMosaic.TcCoe

/-- The reference's whole product. -/
def prod (h : FVec Ideal S2x16384x2048 .f32) (w : FVec Ideal S2048x6152 .f32) : FVec Ideal S2x16384x6152 .f32 :=
  Host.dotGeneral dot_S2x16384x2048_S2048x6152_S2x16384x6152_2_0_01_1_n_n none h w

/-- It at an element. -/
theorem prod_apply (h : FVec Ideal S2x16384x2048 .f32) (w : FVec Ideal S2048x6152 .f32) (b : Fin 2) (s : Fin 16384) (n : Fin 6152) :
    prod h w (ix3 b s n) = ∑ k : Fin 2048, h (ix3 b s k) * w (ix2 k n) := by
  pointwise [prod]

/-- The hidden states, by coordinates. -/
abbrev hC (h : FVec Ideal S2x16384x2048 .f32) : Fin 2 → Fin 16384 → Fin 2048 → EReal := fun b s k => h (ix3 b s k)
/-- The weights, by coordinates. -/
abbrev wC (w : FVec Ideal S2048x6152 .f32) : Fin 2048 → Fin 6152 → EReal := fun k n => w (ix2 k n)

/-- A column of the product that is not a query's is a joined projection, -/
theorem prod_plain (h : FVec Ideal S2x16384x2048 .f32) (w : FVec Ideal S2048x6152 .f32) (b : Fin 2) (s : Fin 16384) (n : Fin 6144) (n' : Fin 6152)
    (hn : n.val / 1024 % 3 ≠ 0) (hc : (col n).val = n'.val) : prod h w (ix3 b s n') = proj (hC h) (wC w) b s n := by
  rw [prod_apply]; unfold proj; rw [if_neg hn, Fin.ext hc]
/-- and a query's at its factor is. -/
theorem prod_query (h : FVec Ideal S2x16384x2048 .f32) (w : FVec Ideal S2048x6152 .f32) (b : Fin 2) (s : Fin 16384) (n : Fin 6144) (n' : Fin 6152)
    (hn : n.val / 1024 % 3 = 0) (hc : (col n).val = n'.val) :
    prod h w (ix3 b s n') * Ideal.ofBits .f32 0x3E0293EE#32 = proj (hC h) (wC w) b s n := by
  rw [prod_apply, ofBits_qs]; unfold proj; rw [if_pos hn, Fin.ext hc]

/-- The queries' columns at their factor. -/
def qpart (off : Fin 3 → ℕ) (z : FVec Ideal S2x16384x6152 .f32) (hs : S2x16384x6152.Slices off S2x16384x1024) : FVec Ideal S2x16384x1024 .f32 :=
  mulf (extractStridedSlice S2x16384x1024 off z hs) (broadcastInDim S2x16384x1024 ![] bcast_S_S2x16384x1024 (constant S_ .f32 0x3E0293EE#32))

/-- The parts of the joined result. -/
def pieces (z : FVec Ideal S2x16384x6152 .f32) : List ((s : Shape) × (s.Idx → EReal)) :=
  [⟨S2x16384x1024, qpart ![0, 0, 0] z slices_S2x16384x6152_S2x16384x1024_0_0_0⟩,
    ⟨S2x16384x1024, extractStridedSlice S2x16384x1024 ![0, 0, 1024] z slices_S2x16384x6152_S2x16384x1024_0_0_1024⟩,
    ⟨S2x16384x1024, extractStridedSlice S2x16384x1024 ![0, 0, 2048] z slices_S2x16384x6152_S2x16384x1024_0_0_2048⟩,
    ⟨S2x16384x1024, qpart ![0, 0, 3080] z slices_S2x16384x6152_S2x16384x1024_0_0_3080⟩,
    ⟨S2x16384x1024, extractStridedSlice S2x16384x1024 ![0, 0, 4104] z slices_S2x16384x6152_S2x16384x1024_0_0_4104⟩,
    ⟨S2x16384x1024, extractStridedSlice S2x16384x1024 ![0, 0, 5128] z slices_S2x16384x6152_S2x16384x1024_0_0_5128⟩]

/-- The joined result, before it is stored. -/
def sides (z : FVec Ideal S2x16384x6152 .f32) : FVec Ideal S2x16384x6144 .f32 :=
  concatenate S2x16384x6144 2 (pieces z) concatenates_S2x16384x1024_S2x16384x1024_S2x16384x1024_S2x16384x1024_S2x16384x1024_S2x16384x1024_S2x16384x6144_d2

/-- The joined result, part by part: the first queries, -/
theorem sides_0 (z : FVec Ideal S2x16384x6152 .f32) (b : Fin 2) (s : Fin 16384) (e : Fin 1024) :
    sides z (ix3 b s ⟨0 + e.val, by omega⟩) = z (ix3 b s ⟨0 + e.val, by omega⟩) * Ideal.ofBits .f32 0x3E0293EE#32 := by
  unfold sides
  refine Eq.trans (concatenate_apply_piece (t := S2x16384x6144) 2 (pieces z) _ _ 0 (show 0 < 6 by decide) S2x16384x1024 _ rfl rfl 0 rfl (ix3 b s e) (fun d hd => ?_) ?_) ?_
  · fin_cases d
    · rfl
    · rfl
    · exact absurd rfl hd
  · rfl
  · pointwise [qpart]
/-- the first keys, -/
theorem sides_1 (z : FVec Ideal S2x16384x6152 .f32) (b : Fin 2) (s : Fin 16384) (e : Fin 1024) :
    sides z (ix3 b s ⟨1024 + e.val, by omega⟩) = z (ix3 b s ⟨1024 + e.val, by omega⟩) := by
  unfold sides
  refine Eq.trans (concatenate_apply_piece (t := S2x16384x6144) 2 (pieces z) _ _ 1 (show 1 < 6 by decide) S2x16384x1024 _ rfl rfl 1024 rfl (ix3 b s e) (fun d hd => ?_) ?_) ?_
  · fin_cases d
    · rfl
    · rfl
    · exact absurd rfl hd
  · rfl
  · pointwise [qpart]
/-- the first values, -/
theorem sides_2 (z : FVec Ideal S2x16384x6152 .f32) (b : Fin 2) (s : Fin 16384) (e : Fin 1024) :
    sides z (ix3 b s ⟨2048 + e.val, by omega⟩) = z (ix3 b s ⟨2048 + e.val, by omega⟩) := by
  unfold sides
  refine Eq.trans (concatenate_apply_piece (t := S2x16384x6144) 2 (pieces z) _ _ 2 (show 2 < 6 by decide) S2x16384x1024 _ rfl rfl 2048 rfl (ix3 b s e) (fun d hd => ?_) ?_) ?_
  · fin_cases d
    · rfl
    · rfl
    · exact absurd rfl hd
  · rfl
  · pointwise [qpart]
/-- the second queries, -/
theorem sides_3 (z : FVec Ideal S2x16384x6152 .f32) (b : Fin 2) (s : Fin 16384) (e : Fin 1024) :
    sides z (ix3 b s ⟨3072 + e.val, by omega⟩) = z (ix3 b s ⟨3080 + e.val, by omega⟩) * Ideal.ofBits .f32 0x3E0293EE#32 := by
  unfold sides
  refine Eq.trans (concatenate_apply_piece (t := S2x16384x6144) 2 (pieces z) _ _ 3 (show 3 < 6 by decide) S2x16384x1024 _ rfl rfl 3072 rfl (ix3 b s e) (fun d hd => ?_) ?_) ?_
  · fin_cases d
    · rfl
    · rfl
    · exact absurd rfl hd
  · rfl
  · pointwise [qpart]
/-- the second keys, -/
theorem sides_4 (z : FVec Ideal S2x16384x6152 .f32) (b : Fin 2) (s : Fin 16384) (e : Fin 1024) :
    sides z (ix3 b s ⟨4096 + e.val, by omega⟩) = z (ix3 b s ⟨4104 + e.val, by omega⟩) := by
  unfold sides
  refine Eq.trans (concatenate_apply_piece (t := S2x16384x6144) 2 (pieces z) _ _ 4 (show 4 < 6 by decide) S2x16384x1024 _ rfl rfl 4096 rfl (ix3 b s e) (fun d hd => ?_) ?_) ?_
  · fin_cases d
    · rfl
    · rfl
    · exact absurd rfl hd
  · rfl
  · pointwise [qpart]
/-- and the second values. -/
theorem sides_5 (z : FVec Ideal S2x16384x6152 .f32) (b : Fin 2) (s : Fin 16384) (e : Fin 1024) :
    sides z (ix3 b s ⟨5120 + e.val, by omega⟩) = z (ix3 b s ⟨5128 + e.val, by omega⟩) := by
  unfold sides
  refine Eq.trans (concatenate_apply_piece (t := S2x16384x6144) 2 (pieces z) _ _ 5 (show 5 < 6 by decide) S2x16384x1024 _ rfl rfl 5120 rfl (ix3 b s e) (fun d hd => ?_) ?_) ?_
  · fin_cases d
    · rfl
    · rfl
    · exact absurd rfl hd
  · rfl
  · pointwise [qpart]

/-- The joined result at an element is the joined projection. -/
theorem sides_apply (h : FVec Ideal S2x16384x2048 .f32) (w : FVec Ideal S2048x6152 .f32) (b : Fin 2) (s : Fin 16384) (n : Fin 6144) :
    sides (prod h w) (ix3 b s n) = proj (hC h) (wC w) b s n := by
  have hn := n.isLt
  by_cases h0 : n.val < 1024
  · have e : n = ⟨0 + (n.val - 0), by omega⟩ := Fin.ext (by simp only; omega)
    refine (congrArg (fun n => sides (prod h w) (ix3 b s n)) e).trans ((sides_0 _ b s ⟨n.val - 0, by omega⟩).trans ?_)
    refine prod_query h w b s n _ (by omega) ?_
    unfold col; rw [if_pos (by omega)]; simp only; omega
  by_cases h1 : n.val < 2048
  · have e : n = ⟨1024 + (n.val - 1024), by omega⟩ := Fin.ext (by simp only; omega)
    refine (congrArg (fun n => sides (prod h w) (ix3 b s n)) e).trans ((sides_1 _ b s ⟨n.val - 1024, by omega⟩).trans ?_)
    refine prod_plain h w b s n _ (by omega) ?_
    unfold col; rw [if_pos (by omega)]; simp only; omega
  by_cases h2 : n.val < 3072
  · have e : n = ⟨2048 + (n.val - 2048), by omega⟩ := Fin.ext (by simp only; omega)
    refine (congrArg (fun n => sides (prod h w) (ix3 b s n)) e).trans ((sides_2 _ b s ⟨n.val - 2048, by omega⟩).trans ?_)
    refine prod_plain h w b s n _ (by omega) ?_
    unfold col; rw [if_pos (by omega)]; simp only; omega
  by_cases h3 : n.val < 4096
  · have e : n = ⟨3072 + (n.val - 3072), by omega⟩ := Fin.ext (by simp only; omega)
    refine (congrArg (fun n => sides (prod h w) (ix3 b s n)) e).trans ((sides_3 _ b s ⟨n.val - 3072, by omega⟩).trans ?_)
    refine prod_query h w b s n _ (by omega) ?_
    unfold col; rw [if_neg (by omega)]; simp only; omega
  by_cases h4 : n.val < 5120
  · have e : n = ⟨4096 + (n.val - 4096), by omega⟩ := Fin.ext (by simp only; omega)
    refine (congrArg (fun n => sides (prod h w) (ix3 b s n)) e).trans ((sides_4 _ b s ⟨n.val - 4096, by omega⟩).trans ?_)
    refine prod_plain h w b s n _ (by omega) ?_
    unfold col; rw [if_neg (by omega)]; simp only; omega
  by_cases h5 : n.val < 6144
  · have e : n = ⟨5120 + (n.val - 5120), by omega⟩ := Fin.ext (by simp only; omega)
    refine (congrArg (fun n => sides (prod h w) (ix3 b s n)) e).trans ((sides_5 _ b s ⟨n.val - 5120, by omega⟩).trans ?_)
    refine prod_plain h w b s n _ (by omega) ?_
    unfold col; rw [if_neg (by omega)]; simp only; omega
  exact absurd hn (by omega)

/-- The joined result. -/
theorem ref_2 (h : FVec Ideal S2x16384x2048 .f32) (w : FVec Ideal S2048x6152 .f32) :
    truncf .bf16 (sides (prod h w)) bitsLt_bf16_f32 = GZ (hC h) (wC w) := by
  funext y
  have hy : y = ix3 (y 0) (y 1) (y 2) := by blk_ext []
  exact (congrArg _ hy).trans (sides_apply h w (y 0) (y 1) (y 2))
/-- The columns from 1024 on, -/
theorem ref_3 (h : FVec Ideal S2x16384x2048 .f32) (w : FVec Ideal S2048x6152 .f32) :
    extractStridedSlice S2x16384x1024 ![0, 0, 1024] (prod h w) slices_S2x16384x6152_S2x16384x1024_0_0_1024 = GC 1024 (by decide) (hC h) (wC w) := by
  funext y
  have hy : y = ix3 (y 0) (y 1) (y 2) := by blk_ext []
  refine (congrArg _ hy).trans (Eq.trans ?_ (prod_plain h w (y 0) (y 1) _ ⟨1024 + (y 2).val, by have : (y 2).val < 1024 := (y 2).isLt; omega⟩ ?_ ?_))
  · pointwise
  · have : (y 2).val < 1024 := (y 2).isLt
    simp only; omega
  · have : (y 2).val < 1024 := (y 2).isLt
    unfold col; rw [if_pos (by simp only; omega)]
/-- from 2048 on, -/
theorem ref_4 (h : FVec Ideal S2x16384x2048 .f32) (w : FVec Ideal S2048x6152 .f32) :
    extractStridedSlice S2x16384x1024 ![0, 0, 2048] (prod h w) slices_S2x16384x6152_S2x16384x1024_0_0_2048 = GC 2048 (by decide) (hC h) (wC w) := by
  funext y
  have hy : y = ix3 (y 0) (y 1) (y 2) := by blk_ext []
  refine (congrArg _ hy).trans (Eq.trans ?_ (prod_plain h w (y 0) (y 1) _ ⟨2048 + (y 2).val, by have : (y 2).val < 1024 := (y 2).isLt; omega⟩ ?_ ?_))
  · pointwise
  · have : (y 2).val < 1024 := (y 2).isLt
    simp only; omega
  · have : (y 2).val < 1024 := (y 2).isLt
    unfold col; rw [if_pos (by simp only; omega)]
/-- the last rows of those from 4096 on, -/
theorem ref_5 (h : FVec Ideal S2x16384x2048 .f32) (w : FVec Ideal S2048x6152 .f32) :
    extractStridedSlice S2x512x1024 ![0, 15872, 0] (extractStridedSlice S2x16384x1024 ![0, 0, 4104] (prod h w) slices_S2x16384x6152_S2x16384x1024_0_0_4104)
      slices_S2x16384x1024_S2x512x1024_0_15872_0 = GT 4096 (by decide) (hC h) (wC w) := by
  funext y
  have hy : y = ix3 (y 0) (y 1) (y 2) := by blk_ext []
  refine (congrArg _ hy).trans (Eq.trans ?_ (prod_plain h w (y 0) _ _ ⟨4104 + (y 2).val, by have : (y 2).val < 1024 := (y 2).isLt; omega⟩ ?_ ?_))
  · pointwise
  · have : (y 2).val < 1024 := (y 2).isLt
    simp only; omega
  · have : (y 2).val < 1024 := (y 2).isLt
    unfold col; rw [if_neg (by simp only; omega)]; simp only; omega
/-- and of those from 5120 on. -/
theorem ref_6 (h : FVec Ideal S2x16384x2048 .f32) (w : FVec Ideal S2048x6152 .f32) :
    extractStridedSlice S2x512x1024 ![0, 15872, 0] (extractStridedSlice S2x16384x1024 ![0, 0, 5128] (prod h w) slices_S2x16384x6152_S2x16384x1024_0_0_5128)
      slices_S2x16384x1024_S2x512x1024_0_15872_0 = GT 5120 (by decide) (hC h) (wC w) := by
  funext y
  have hy : y = ix3 (y 0) (y 1) (y 2) := by blk_ext []
  refine (congrArg _ hy).trans (Eq.trans ?_ (prod_plain h w (y 0) _ _ ⟨5128 + (y 2).val, by have : (y 2).val < 1024 := (y 2).isLt; omega⟩ ?_ ?_))
  · pointwise
  · have : (y 2).val < 1024 := (y 2).isLt
    simp only; omega
  · have : (y 2).val < 1024 := (y 2).isLt
    unfold col; rw [if_neg (by simp only; omega)]; simp only; omega

end Cert.Proof.Even
end
-- ==== Proof.EvenEqual.lean ====
/-
  Over the extended reals the input projection's call and its reference compute the same arrays.
-/
module

public import proofs.«01_k».proof.Defs
public import proofs.«01_k».proof.Proof.EvenRef
public import Idealize.ShloMosaic.Lib.Claim

@[expose] public section

set_option maxRecDepth 16384

noncomputable section

namespace Cert.Proof.Even

open Idealize.ShloMosaic Idealize.ShloMosaic.TcCoe Idealize.SL.Sem

section Kernel
open Cert.Kernel2Ideal Cert.Kernel2Ideal.Gen

/-- The ideal call ends with the joined projections of its arguments and their parts, the arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12_0) = GZ (hA m c) (wA m c)
      ∧ r.2.mem ((c.tc : Thread nD τ).loc main_v12_1) = GC 1024 (by decide) (hA m c) (wA m c)
      ∧ r.2.mem ((c.tc : Thread nD τ).loc main_v12_2) = GC 2048 (by decide) (hA m c) (wA m c)
      ∧ r.2.mem ((c.tc : Thread nD τ).loc main_v12_3) = GT 4096 (by decide) (hA m c) (wA m c)
      ∧ r.2.mem ((c.tc : Thread nD τ).loc main_v12_4) = GT 5120 (by decide) (hA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1.1 c).1 2).trans (final_2 m c), ((h.1.1 c).1 3).trans (final_3 m c),
      ((h.1.1 c).1 4).trans (final_4 m c), ((h.1.1 c).1 5).trans (final_5 m c), ((h.1.1 c).1 6).trans (final_6 m c), h.2.1 c⟩)
    (θ_run_and (run_main (F := Ideal) m ρ) (run_frame (F := Ideal) m ρ))
end Kernel

/-- The ideal call and the reference, from equal arguments, end with equal results. -/
theorem algebraic : Cert.algebraic_Kernel2Ideal_Reference2Ideal (hKernel2Ideal := Cert.Kernel2Ideal.Gen.facts)
    (hReference2Ideal := Cert.Reference2Ideal.Gen.facts) := fun m g m' g' _ hagree =>
  ⟨fun c => GZ (hA m c) (wA m c), fun c => GC 1024 (by decide) (hA m c) (wA m c), fun c => GC 2048 (by decide) (hA m c) (wA m c),
    fun c => GT 4096 (by decide) (hA m c) (wA m c), fun c => GT 5120 (by decide) (hA m c) (wA m c), run_value m g,
    (θ_run Cert.Reference2Ideal.defs _ _).mono (fun _ h c => by
        obtain ⟨h0, h1⟩ := hagree c
        obtain ⟨r2, r3, r4, r5, r6, ra⟩ := h c
        rw [h0, h1] at r2 r3 r4 r5 r6
        exact ⟨r2.trans (ref_2 _ _), r3.trans (ref_3 _ _), r4.trans (ref_4 _ _), r5.trans (ref_5 _ _), r6.trans (ref_6 _ _), ra⟩)
      (Cert.Reference2Ideal.Value.run (F := Ideal) m' g')⟩

end Cert.Proof.Even
end
-- ==== Proof.Gate.lean ====
/-
  The forget gate's call, read at an element, and its result array.
-/
module

public import proofs.«01_k».proof.Defs
public import proofs.«01_k».proof.Proof.Block
public import proofs.«01_k».proof.Proof.Gen.Kernel3
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.Covers
public import Idealize.ShloMosaic.Lib.Quiescent
public import Idealize.ShloMosaic.Lib.StableHlo.Run
public import Idealize.ShloMosaic.Lib.KernelVsHost
public import Idealize.ShloMosaic.Lib.Claim

@[expose] public section

set_option maxRecDepth 16384

noncomputable section

namespace Cert.Proof.Gate

open Idealize.ShloMosaic Idealize.ShloMosaic.TcCoe Idealize.SL.Sem

/-- The logarithm of the logistic function at `z`. -/
def lsg (z : EReal) : EReal := -(max (-z) 0 + Ideal.log1p (Ideal.exp (-max z (-z))))

section Frames

set_option smartUnfolding false in
/-- The gate as printed: it ends, its arguments as they were, every counter at zero. -/
theorem frame_kernel : Cert.quiescent_Kernel3 (hKernel3 := Cert.Kernel3.Gen.facts) := fun m ρ _ =>
  (θ_run (Cert.Kernel3Ideal.defs (F := Bits)) _ _).mono (fun _ h => h) (Cert.Kernel3Ideal.Gen.frame (F := Bits) m ρ)

/-- The ideal gate: the same. -/
theorem frame_kernelIdeal : Cert.quiescent_Kernel3Ideal (hKernel3Ideal := Cert.Kernel3Ideal.Gen.facts) := fun m ρ _ =>
  Cert.Kernel3Ideal.Gen.frame (F := Ideal) m ρ

/-- The reference ends with its arguments as they were; it declares no counter, so every counter reads zero. -/
theorem frame_reference : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

end Frames

/-- The gate's argument at a row and head: the row's product with that head's column of the weights, and its bias. -/
def pre (h : FVec Ideal ⟨3, ![2, 16384, 2048]⟩ .f32) (w : FVec Ideal ⟨2, ![2048, 6152]⟩ .f32) (u : FVec Ideal ⟨1, ![8]⟩ .f32)
    (b : Fin 2) (s : Fin 16384) (e : Fin 8) : EReal :=
  (∑ k : Fin 2048, h (ix3 b s k) * w (ix2 k ⟨3072 + e.val, by omega⟩)) + u (ix1 e)

/-- The gates' logarithms as an array. -/
def GA (h : FVec Ideal ⟨3, ![2, 16384, 2048]⟩ .f32) (w : FVec Ideal ⟨2, ![2048, 6152]⟩ .f32) (u : FVec Ideal ⟨1, ![8]⟩ .f32) :
    (⟨3, ![2, 16384, 8]⟩ : Shape).Idx → EReal :=
  fun y => lsg (pre h w u (y 0) (y 1) (y 2))

section Kernel
open Cert.Kernel3Ideal Cert.Kernel3Ideal.Gen

/-- The block the body stores, at an element. -/
theorem pay1_apply (x : FVec Ideal S1x1024x2048 .bf16) (w : FVec Ideal S2048x128 .bf16) (u : FVec Ideal S1x128 .f32) (r : Fin 1024) (e : Fin 8) :
    k0_pay1 (F := Ideal) x w u (ix3 0 r e) = lsg ((∑ k : Fin 2048, x (ix3 0 r k) * w (ix2 k ⟨e.val, by omega⟩)) + u (ix2 0 ⟨e.val, by omega⟩)) := by
  pointwise [k0_pay1, lsg]
  simp only [zero_sub]
  rfl

variable (m : (ℓ : Loc nD τ sig) → Buf (Elt Ideal) ℓ) (c : Dev nD)

/-- The hidden states, as the call takes them. -/
theorem V_v5 : V m c main_v5 = truncf (F := Ideal) .bf16 (m ((c : Thread nD τ).loc main_arg0)) bitsLt_bf16_f32 := by
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  open StableHlo in after_results <;> rfl

/-- The gate's columns of the weights, as the call takes them. -/
theorem V_v2 : ∃ v : FVec Ideal S_ .f32, V m c main_v2 = truncf (F := Ideal) .bf16 (pad S2048x128 ![0, 0] ![0, 120] ![0, 0]
    (extractStridedSlice S2048x8 ![0, 3072] (m ((c : Thread nD τ).loc main_arg1)) slices_S2048x6152_S2048x8_0_3072) v pads_S2048x8_S2048x128_000_01200 h_S_) bitsLt_bf16_f32 := by
  refine ⟨sitofp .f32 (constantI S_ 32 0#32), ?_⟩
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  open StableHlo in after_results <;> rfl

/-- The biases, as the call takes them. -/
theorem V_v4 : ∃ v : FVec Ideal S_ .f32, V m c main_v4 = shapeCast S1x128 (pad S128 ![0] ![120] ![0]
    (m ((c : Thread nD τ).loc main_arg2)) v pads_S8_S128_01200 h_S_) shapeCasts_S128_S1x128 := by
  refine ⟨sitofp .f32 (constantI S_ 32 0#32), ?_⟩
  simp only [V, hostOps0, hostOps0_1, hostOps0_2, hostOps0_3, hostOps0_4, List.flatten_cons, List.flatten_nil, List.append_nil, List.cons_append, List.nil_append,
    StableHlo.TRef.binary, StableHlo.TRef.unary, StableHlo.TRef.toBuf, StableHlo.TRef.ofBuf, cast_eq]
  open StableHlo in after_results <;> rfl

/-- The hidden states, at an element. -/
theorem V_h (b : Fin 2) (s : Fin 16384) (k : Fin 2048) : V m c main_v5 (ix3 b s k) = m ((c : Thread nD τ).loc main_arg0) (ix3 b s k) := by
  rw [V_v5]
  pointwise

/-- The gate's columns, at an element. -/
theorem V_w (k : Fin 2048) (e : Fin 8) :
    V m c main_v2 (ix2 k ⟨e.val, by omega⟩) = m ((c : Thread nD τ).loc main_arg1) (ix2 k ⟨3072 + e.val, by omega⟩) := by
  obtain ⟨v, hv⟩ := V_v2 m c
  rw [hv]
  pointwise

/-- The biases, at an element. -/
theorem V_b (e : Fin 8) : V m c main_v4 (ix2 0 ⟨e.val, by omega⟩) = m ((c : Thread nD τ).loc main_arg2) (ix1 e) := by
  obtain ⟨v, hv⟩ := V_v4 m c
  rw [hv]
  pointwise
  refine dif_pos fun a => ?_
  fin_cases a
  exact e.isLt

/-- The block of each window at each grid step. -/
theorem idx : ∀ t : Fin cfg0.N, win0_0.index t = ![t.val / 16, t.val % 16, 0] ∧ win0_1.index t = ![0, 0] ∧ win0_2.index t = ![0, 0]
    ∧ win0_3.index t = ![t.val / 16, t.val % 16, 0] :=
  (by decide +kernel : ∀ t : Fin grid0.N, _)

/-- There are 32 grid steps. -/
theorem lt_N (t : Fin cfg0.N) : t.val < 32 := t.isLt

/-- The first window holds a row tile of the hidden states, -/
theorem blk_h (t : Fin cfg0.N) (r : Fin 1024) (k : Fin 2048) :
    iblk m c 0 t (ix3 0 r k) = m ((c : Thread nD τ).loc main_arg0) (ix3 ⟨t.val / 16, by have := lt_N t; omega⟩ ⟨1024 * (t.val % 16) + r.val, by omega⟩ k) := by
  have hN := lt_N t
  refine Eq.trans ?_ (V_h m c _ _ _)
  blk_simp [iblk, idx t]
  blk_ext [idx t]

/-- the second the gate's columns of the weights, -/
theorem blk_w (t : Fin cfg0.N) (k : Fin 2048) (e : Fin 8) :
    iblk m c 1 t (ix2 k ⟨e.val, by omega⟩) = m ((c : Thread nD τ).loc main_arg1) (ix2 k ⟨3072 + e.val, by omega⟩) := by
  refine Eq.trans ?_ (V_w m c k e)
  blk_simp [iblk, idx t]
  blk_ext [idx t]

/-- the third the biases. -/
theorem blk_b (t : Fin cfg0.N) (e : Fin 8) : iblk m c 2 t (ix2 0 ⟨e.val, by omega⟩) = m ((c : Thread nD τ).loc main_arg2) (ix1 e) := by
  refine Eq.trans ?_ (V_b m c e)
  blk_simp [iblk, idx t]
  blk_ext [idx t]

/-- What a grid point stores, at an element. -/
theorem tile_value (t : Fin cfg0.N) (r : Fin 1024) (e : Fin 8) :
    k0_pay1 (F := Ideal) (iblk m c 0 t) (iblk m c 1 t) (iblk m c 2 t) (ix3 0 r e)
      = lsg (pre (m ((c : Thread nD τ).loc main_arg0)) (m ((c : Thread nD τ).loc main_arg1)) (m ((c : Thread nD τ).loc main_arg2))
          ⟨t.val / 16, by have := lt_N t; omega⟩ ⟨1024 * (t.val % 16) + r.val, by omega⟩ e) := by
  refine (pay1_apply _ _ _ r e).trans ?_
  simp only [blk_h, blk_w, blk_b, pre]

/-- The result ends holding the gates' logarithms. -/
theorem final_3 : (dats m 0 c).arrAt 3 cfg0.N = GA (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt_N t
  blk_simp
  rw [after0_3]
  have y0 : (y 0).val < 1 := (y 0).isLt
  have hy : y = ix3 0 (y 1) (y 2) := by blk_ext []
  have e0 : ((((cfg0.win 3).blk t).view.emb y) 0).val = t.val / 16 + (y 0).val := by blk_simp [idx t]
  have e1 : ((((cfg0.win 3).blk t).view.emb y) 1).val = t.val % 16 * 1024 + (y 1).val := by blk_simp [idx t]
  have e2 : ((((cfg0.win 3).blk t).view.emb y) 2).val = (y 2).val := by blk_simp [idx t]
  have hout : out0_3 (iblk m c 0 t) (iblk m c 1 t) (iblk m c 2 t) = k0_pay1 (iblk m c 0 t) (iblk m c 1 t) (iblk m c 2 t) := by
    refine (View.canon_cons_unit_lit _ _ _ (by decide)).trans ?_
    exact congr (congrArg₂ k0_pay1 (View.ld_unit_lit _ _ (by decide)) (View.ld_unit_lit _ _ (by decide))) (View.ld_unit_lit _ _ (by decide))
  rw [hout]
  refine (congrArg _ hy).trans ((tile_value m c t (y 1) (y 2)).trans ?_)
  unfold GA
  generalize ((cfg0.win 3).blk t).view.emb y = z at *
  have f0 : z 0 = ⟨t.val / 16, by omega⟩ := Fin.ext (by simp only; omega)
  have f1 : z 1 = ⟨1024 * (t.val % 16) + (y 1).val, by have := (y 1).isLt; omega⟩ := Fin.ext (by simp only; omega)
  have f2 : z 2 = y 2 := Fin.ext e2
  rw [f0, f1, f2]
  rfl

/-- The ideal call ends with the gates' logarithms, the arguments as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = GA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_3 m c), (h c).2⟩) (Cert.Kernel3Ideal.Value.run_blocks (F := Ideal) m ρ)

end Kernel

section Reference
open Cert.Reference3Ideal Cert.Reference3Ideal.Gen

/-- The reference's argument of the gate, as an array. -/
def preArr (h : FVec Ideal S2x16384x2048 .f32) (w : FVec Ideal S2048x6152 .f32) (u : FVec Ideal S8 .f32) : FVec Ideal S2x16384x8 .f32 :=
  addf (extractStridedSlice S2x16384x8 ![0, 0, 3072] (Host.dotGeneral dot_S2x16384x2048_S2048x6152_S2x16384x6152_2_0_01_1_n_n none h w) slices_S2x16384x6152_S2x16384x8_0_0_3072) (broadcastInDim S2x16384x8 ![0, 1, 2] bcast_S1x1x8_S2x16384x8_0_1_2 (broadcastInDim S1x1x8 ![2] bcast_S8_S1x1x8_2 u))

/-- It at an element. -/
theorem preArr_apply (h : FVec Ideal S2x16384x2048 .f32) (w : FVec Ideal S2048x6152 .f32) (u : FVec Ideal S8 .f32) (b : Fin 2) (s : Fin 16384) (e : Fin 8) :
    preArr h w u (ix3 b s e) = pre h w u b s e := by
  pointwise [preArr, pre]

/-- The array of zeros. -/
def zer : FVec Ideal S2x16384x8 .f32 := broadcastInDim S2x16384x8 ![] bcast_S_S2x16384x8 (constant S_ .f32 0x00000000#32)

/-- The reference's result, as an array of the gate's argument. -/
def refArr (z : FVec Ideal S2x16384x8 .f32) : FVec Ideal S2x16384x8 .f32 :=
  Host.negf (select (cmpf .une (subf (Host.negf z) zer) (subf (Host.negf z) zer)) (addf (Host.negf z) zer)
    (addf (maximumf (Host.negf z) zer) (Host.log1p (Host.exp (Host.negf (Host.absf (subf (Host.negf z) zer)))))))

/-- It at an element. -/
theorem refArr_apply (z : FVec Ideal S2x16384x8 .f32) (y : S2x16384x8.Idx) : refArr z y = lsg (z y) := by
  pointwise [refArr, zer, lsg]
  rw [if_neg (fun h => h rfl)]
  show -(max (-z y) 0 + Ideal.log1p (Ideal.exp (-max (-z y) (- -z y)))) = _
  rw [neg_neg, max_comm (-z y) (z y)]

/-- The reference's result is the gates' logarithms. -/
theorem ref_eq (h : FVec Ideal S2x16384x2048 .f32) (w : FVec Ideal S2048x6152 .f32) (u : FVec Ideal S8 .f32) : refArr (preArr h w u) = GA h w u := by
  funext y
  have hy : y = ix3 (y 0) (y 1) (y 2) := by blk_ext []
  refine (refArr_apply _ y).trans ?_
  exact congrArg lsg ((congrArg _ hy).trans (preArr_apply h w u (y 0) (y 1) (y 2)))

end Reference

/-- The ideal call and the reference, from equal arguments, end with equal results. -/
theorem algebraic : Cert.algebraic_Kernel3Ideal_Reference3Ideal (hKernel3Ideal := Cert.Kernel3Ideal.Gen.facts)
    (hReference3Ideal := Cert.Reference3Ideal.Gen.facts) := fun m g m' g' _ hagree =>
  ⟨_, run_value m g,
    (θ_run Cert.Reference3Ideal.defs _ _).mono (fun _ h c => by
        obtain ⟨h0, h1, h2⟩ := hagree c
        obtain ⟨r, ra⟩ := h c
        rw [h0, h1, h2] at r
        exact ⟨r.trans (ref_eq _ _ _), ra⟩)
      (Cert.Reference3Ideal.Value.run (F := Ideal) m' g')⟩

end Cert.Proof.Gate
end
-- ==== Proof.Norm.lean ====
/-
  The last normalisation's call, read at an element, and its result array.
-/
module

public import proofs.«01_k».proof.Defs
public import proofs.«01_k».proof.Proof.Block
public import proofs.«01_k».proof.Proof.Gen.Kernel4
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.Covers
public import Idealize.ShloMosaic.Lib.Quiescent
public import Idealize.ShloMosaic.Lib.Claim

@[expose] public section

set_option maxRecDepth 16384

noncomputable section

namespace Cert.Proof.Norm

open Idealize.ShloMosaic Idealize.ShloMosaic.TcCoe Idealize.SL.Sem

/-- A row `x` divided by the root of the mean of its squares and scaled by `g`, at a column. -/
def unit {n : ℕ} (count : EReal) (x : Fin n → EReal) (g : Fin n → EReal) (e : Fin n) : EReal :=
  x e * Ideal.rsqrt (Ideal.div (∑ k : Fin n, x k * x k) count + Ideal.ofBits .f32 0x358637BD#32) * g e

section Frames

set_option smartUnfolding false in
/-- The normalisation as printed: it ends, its arguments as they were, every counter at zero. -/
theorem frame_kernel : Cert.quiescent_Kernel4 (hKernel4 := Cert.Kernel4.Gen.facts) := fun m ρ _ =>
  (θ_run (Cert.Kernel4Ideal.defs (F := Bits)) _ _).mono (fun _ h => h) (Cert.Kernel4Ideal.Gen.frame (F := Bits) m ρ)

/-- The ideal normalisation: the same. -/
theorem frame_kernelIdeal : Cert.quiescent_Kernel4Ideal (hKernel4Ideal := Cert.Kernel4Ideal.Gen.facts) := fun m ρ _ =>
  Cert.Kernel4Ideal.Gen.frame (F := Ideal) m ρ

/-- The reference ends with its arguments as they were; it declares no counter, so every counter reads zero. -/
theorem frame_reference : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

end Frames

/-- The normalised rows as an array. -/
def GN (x : FVec Ideal ⟨3, ![2, 16384, 2048]⟩ .f32) (g : FVec Ideal ⟨1, ![2048]⟩ .f32) : (⟨3, ![2, 16384, 2048]⟩ : Shape).Idx → EReal :=
  fun y => unit (Ideal.ofBits .f32 0x45000000#32) (fun k => x (ix3 (y 0) (y 1) k)) (fun k => g (ix1 k)) (y 2)

section Kernel
open Cert.Kernel4Ideal Cert.Kernel4Ideal.Gen

/-- The block the body stores, at an element. -/
theorem pay1_apply (x : FVec Ideal S1x512x2048 .f32) (g : FVec Ideal S1x2048 .f32) (r : Fin 512) (e : Fin 2048) :
    k0_pay1 (F := Ideal) x g (ix3 0 r e) = unit (Ideal.ofBits .f32 0x45000000#32) (fun k => x (ix3 0 r k)) (fun k => g (ix2 0 k)) e := by
  pointwise [k0_pay1, unit]

variable (m : (ℓ : Loc nD τ sig) → Buf (Elt Ideal) ℓ) (c : Dev nD)

/-- The scales, as the call takes them. -/
theorem V_g (e : Fin 2048) : V m c main_v0 (ix2 0 e) = m ((c : Thread nD τ).loc main_arg1) (ix1 e) := by
  entry_read
  pointwise

/-- The block of each window at each grid step. -/
theorem idx : ∀ t : Fin cfg0.N, win0_0.index t = ![t.val / 32, t.val % 32, 0] ∧ win0_1.index t = ![0, 0]
    ∧ win0_2.index t = ![t.val / 32, t.val % 32, 0] :=
  (by decide +kernel : ∀ t : Fin grid0.N, _)

/-- There are 64 grid steps. -/
theorem lt_N (t : Fin cfg0.N) : t.val < 64 := t.isLt

/-- The first window holds a row tile of the argument, -/
theorem blk_x (t : Fin cfg0.N) (r : Fin 512) (k : Fin 2048) :
    iblk m c 0 t (ix3 0 r k) = m ((c : Thread nD τ).loc main_arg0) (ix3 ⟨t.val / 32, by have := lt_N t; omega⟩ ⟨512 * (t.val % 32) + r.val, by omega⟩ k) := by
  have hN := lt_N t
  refine Eq.trans ?_ (congrFun (V_main_arg0 m c) _)
  blk_simp [iblk, idx t]
  blk_ext [idx t]

/-- the second the scales. -/
theorem blk_g (t : Fin cfg0.N) (k : Fin 2048) : iblk m c 1 t (ix2 0 k) = m ((c : Thread nD τ).loc main_arg1) (ix1 k) := by
  refine Eq.trans ?_ (V_g m c k)
  blk_simp [iblk, idx t]
  blk_ext [idx t]

/-- What a grid point stores, at an element. -/
theorem tile_value (t : Fin cfg0.N) (r : Fin 512) (e : Fin 2048) :
    k0_pay1 (F := Ideal) (iblk m c 0 t) (iblk m c 1 t) (ix3 0 r e) = unit (Ideal.ofBits .f32 0x45000000#32)
      (fun k => m ((c : Thread nD τ).loc main_arg0) (ix3 ⟨t.val / 32, by have := lt_N t; omega⟩ ⟨512 * (t.val % 32) + r.val, by omega⟩ k))
      (fun k => m ((c : Thread nD τ).loc main_arg1) (ix1 k)) e := by
  refine (pay1_apply _ _ r e).trans ?_
  simp only [blk_x, blk_g]

/-- The result ends holding the normalised rows. -/
theorem final_2 : (dats m 0 c).arrAt 2 cfg0.N = GN (m ((c : Thread nD τ).loc main_arg0)) (m ((c : Thread nD τ).loc main_arg1)) := by
  refine (dats m 0 c).arrAt_eq_of_covers 2 _ (by decide +kernel) fun t hf y => ?_
  have hN := lt_N t
  blk_simp
  rw [after0_2]
  have y0 : (y 0).val < 1 := (y 0).isLt
  have hy : y = ix3 0 (y 1) (y 2) := by blk_ext []
  have e0 : ((((cfg0.win 2).blk t).view.emb y) 0).val = t.val / 32 + (y 0).val := by blk_simp [idx t]
  have e1 : ((((cfg0.win 2).blk t).view.emb y) 1).val = t.val % 32 * 512 + (y 1).val := by blk_simp [idx t]
  have e2 : ((((cfg0.win 2).blk t).view.emb y) 2).val = (y 2).val := by blk_simp [idx t]
  have hout : out0_2 (iblk m c 0 t) (iblk m c 1 t) = k0_pay1 (iblk m c 0 t) (iblk m c 1 t)  :=
    (View.canon_cons_unit_lit _ _ _ (by decide)).trans (congrArg₂ k0_pay1 (View.ld_unit_lit _ _ (by decide)) (View.ld_unit_lit _ _ (by decide)))
  rw [hout]
  refine (congrArg _ hy).trans ((tile_value m c t (y 1) (y 2)).trans ?_)
  unfold GN
  generalize ((cfg0.win 2).blk t).view.emb y = z at *
  have f0 : z 0 = ⟨t.val / 32, by omega⟩ := Fin.ext (by simp only; omega)
  have f1 : z 1 = ⟨512 * (t.val % 32) + (y 1).val, by have := (y 1).isLt; omega⟩ := Fin.ext (by simp only; omega)
  have f2 : z 2 = y 2 := Fin.ext e2
  rw [f0, f1, f2]
  rfl

/-- The ideal call ends with the normalised rows, the arguments as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = GN (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final_2 m c), (h c).2⟩) (Cert.Kernel4Ideal.Value.run_blocks (F := Ideal) m ρ)

end Kernel

section Reference
open Cert.Reference4Ideal Cert.Reference4Ideal.Gen

/-- The reference's result, as an array of its arguments. -/
def refArr (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))

/-- The reference's result is the normalised rows. -/
theorem ref_eq (x : FVec Ideal S2x16384x2048 .f32) (g : FVec Ideal S2048 .f32) : refArr x g = GN x g := by
  funext y
  have hy : y = ix3 (y 0) (y 1) (y 2) := by blk_ext []
  refine (congrArg _ hy).trans ?_
  pointwise [refArr, GN, unit]

end Reference

/-- The ideal call and the reference, from equal arguments, end with equal results. -/
theorem algebraic : Cert.algebraic_Kernel4Ideal_Reference4Ideal (hKernel4Ideal := Cert.Kernel4Ideal.Gen.facts)
    (hReference4Ideal := Cert.Reference4Ideal.Gen.facts) := fun m g m' g' _ hagree =>
  ⟨fun c => GN (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), run_value m g,
    (θ_run Cert.Reference4Ideal.defs _ _).mono (fun _ h c => by
        obtain ⟨h0, h1⟩ := hagree c
        obtain ⟨r, ra⟩ := h c
        rw [h0, h1] at r
        exact ⟨r.trans (ref_eq _ _), ra⟩)
      (Cert.Reference4Ideal.Value.run (F := Ideal) m' g')⟩

end Cert.Proof.Norm
end
-- ==== Proof.Latent.lean ====
/-
  The latents' call: the arrays it reads, and what a grid point stores, at an element.
-/
module

public import proofs.«01_k».proof.Proof.Norm
public import proofs.«01_k».proof.Proof.Gen.Kernel5Ideal.Frame
public import Idealize.ShloMosaic.Lib.StableHlo.Run
public import Idealize.ShloMosaic.Lib.KernelVsHost

@[expose] public section

set_option maxRecDepth 16384

noncomputable section

namespace Cert.Proof.Latent

open Cert.Kernel5Ideal Cert.Kernel5Ideal.Gen
open Idealize.ShloMosaic Idealize.ShloMosaic.TcCoe
open Cert.Proof.Norm (unit)

/-- An array of rows at equal columns. -/
theorem col_congr {n : ℕ} (f : (⟨3, ![2, 16384, n]⟩ : Shape).Idx → EReal) (b : Fin 2) (s : Fin 16384) {i j : Fin n} (h : i.val = j.val) :
    f (ix3 b s i) = f (ix3 b s j) := by rw [Fin.ext h]

/-- The rotary angles: a position times a frequency. -/
def ang : FVec Ideal S16384x32 .f32 :=
  mulf (broadcastInDim S16384x32 ![0, 1] bcast_S16384x1_S16384x32_0_1 (broadcastInDim S16384x1 ![0] bcast_S16384_S16384x1_0 (sitofp .f32 (iotaInDim S16384 32 0))))
    (broadcastInDim S16384x32 ![0, 1] bcast_S1x32_S16384x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))
/-- Their cosines, -/
def cosA : FVec Ideal S16384x32 .f32 := Host.cos ang
/-- and their sines. -/
def sinA : FVec Ideal S16384x32 .f32 := Host.sin ang

/-- The lanes of the cosine table. -/
def cosT : FVec Ideal S1x16384x128 .f32 :=
  broadcastInDim S1x16384x128 ![1, 2] bcast_S16384x128_S1x16384x128_1_2 (shapeCast S16384x128
    (broadcastInDim S1x16384x4x32 ![0, 1, 2, 3] bcast_S1x16384x1x32_S1x16384x4x32_0_1_2_3 (shapeCast S1x16384x1x32 cosA shapeCasts_S16384x32_S1x16384x1x32))
    shapeCasts_S1x16384x4x32_S16384x128)
/-- The lanes of the signed sine table. -/
def sinT : FVec Ideal S1x16384x128 .f32 :=
  broadcastInDim S1x16384x128 ![1, 2] bcast_S16384x128_S1x16384x128_1_2 (shapeCast S16384x128
    (broadcastInDim S1x16384x2x64 ![0, 1, 2, 3] bcast_S1x16384x1x64_S1x16384x2x64_0_1_2_3 (shapeCast S1x16384x1x64
      (concatenate S16384x64 1 [⟨S16384x32, Host.negf sinA⟩, ⟨S16384x32, sinA⟩] concatenates_S16384x32_S16384x32_S16384x64_d1) shapeCasts_S16384x64_S1x16384x1x64))
    shapeCasts_S1x16384x2x64_S16384x128)

/-- The cosine table at an element. -/
theorem cosT_apply (s : Fin 16384) (e : Fin 128) : cosT (ix3 0 s e) = cosA (ix2 s ⟨e.val % 32, by omega⟩) := by
  pointwise [cosT]
/-- The sine table at an element. -/
theorem sinT_apply (s : Fin 16384) (e : Fin 128) :
    sinT (ix3 0 s e) = if e.val % 64 < 32 then -sinA (ix2 s ⟨e.val % 32, by omega⟩) else sinA (ix2 s ⟨e.val % 32, by omega⟩) := by
  pointwise [sinT]
  by_cases h : e.val % 64 < 32
  · rw [dif_pos h, if_pos h]
    exact congrArg (fun j => -sinA (ix2 s j)) (Fin.ext (by simp only; omega))
  · rw [dif_neg h, if_neg h]
    exact congrArg (fun j => sinA (ix2 s j)) (Fin.ext (by simp only; omega))

/-- The rotary key's columns with their halves swapped. -/
def swapped (x : FVec Ideal S2x16384x1088 .f32) : FVec Ideal S2x16384x64 .f32 :=
  concatenate S2x16384x64 2 [⟨S2x16384x32, extractStridedSlice S2x16384x32 ![0, 0, 32] (extractStridedSlice S2x16384x64 ![0, 0, 1024] x slices_S2x16384x1088_S2x16384x64_0_0_1024) slices_S2x16384x64_S2x16384x32_0_0_32⟩,
    ⟨S2x16384x32, extractStridedSlice S2x16384x32 ![0, 0, 0] (extractStridedSlice S2x16384x64 ![0, 0, 1024] x slices_S2x16384x1088_S2x16384x64_0_0_1024) slices_S2x16384x64_S2x16384x32_0_0_0⟩]
    concatenates_S2x16384x32_S2x16384x32_S2x16384x64_d2

/-- They at an element. -/
theorem swapped_apply (x : FVec Ideal S2x16384x1088 .f32) (b : Fin 2) (s : Fin 16384) (e : Fin 64) :
    swapped x (ix3 b s e) = x (ix3 b s ⟨1024 + (e.val + 32) % 64, by omega⟩) := by
  pointwise [swapped]
  by_cases h : e.val < 32
  · rw [dif_pos h]; exact col_congr x b s (by simp only; omega)
  · rw [dif_neg h]; exact col_congr x b s (by simp only; omega)

/-- The parts of the joined array. -/
def parts (x : FVec Ideal S2x16384x1088 .f32) : List ((s : Shape) × (s.Idx → EReal)) :=
  [⟨S2x16384x1024, extractStridedSlice S2x16384x1024 ![0, 0, 0] x slices_S2x16384x1088_S2x16384x1024_0_0_0⟩,
    ⟨S2x16384x64, extractStridedSlice S2x16384x64 ![0, 0, 1024] x slices_S2x16384x1088_S2x16384x64_0_0_1024⟩,
    ⟨S2x16384x64, extractStridedSlice S2x16384x64 ![0, 0, 1024] x slices_S2x16384x1088_S2x16384x64_0_0_1024⟩,
    ⟨S2x16384x64, swapped x⟩, ⟨S2x16384x64, swapped x⟩]

/-- The array the call reads: the latents, the rotary key twice, and its swapped columns twice. -/
def joined (x : FVec Ideal S2x16384x1088 .f32) : FVec Ideal S2x16384x1280 .f32 :=
  concatenate S2x16384x1280 2 (parts x) concatenates_S2x16384x1024_S2x16384x64_S2x16384x64_S2x16384x64_S2x16384x64_S2x16384x1280_d2

/-- A column of the joined array in its part of 1024 columns, -/
theorem joined_0 (x : FVec Ideal S2x16384x1088 .f32) (b : Fin 2) (s : Fin 16384) (e : Fin 1024) :
    joined x (ix3 b s ⟨0 + e.val, by omega⟩) = x (ix3 b s ⟨e.val, by omega⟩) := by
  unfold joined
  refine Eq.trans (concatenate_apply_piece (t := S2x16384x1280) 2 (parts x) _ _ 0 (show 0 < 5 by decide) S2x16384x1024 _ rfl rfl 0 rfl (ix3 b s e) (fun d hd => ?_) ?_) ?_
  · fin_cases d
    · rfl
    · rfl
    · exact absurd rfl hd
  · rfl
  · pointwise
/-- in the first part of the rotary key, -/
theorem joined_1 (x : FVec Ideal S2x16384x1088 .f32) (b : Fin 2) (s : Fin 16384) (e : Fin 64) :
    joined x (ix3 b s ⟨1024 + e.val, by omega⟩) = x (ix3 b s ⟨1024 + e.val, by omega⟩) := by
  unfold joined
  refine Eq.trans (concatenate_apply_piece (t := S2x16384x1280) 2 (parts x) _ _ 1 (show 1 < 5 by decide) S2x16384x64 _ rfl rfl 1024 rfl (ix3 b s e) (fun d hd => ?_) ?_) ?_
  · fin_cases d
    · rfl
    · rfl
    · exact absurd rfl hd
  · rfl
  · pointwise
/-- in the second, -/
theorem joined_2 (x : FVec Ideal S2x16384x1088 .f32) (b : Fin 2) (s : Fin 16384) (e : Fin 64) :
    joined x (ix3 b s ⟨1088 + e.val, by omega⟩) = x (ix3 b s ⟨1024 + e.val, by omega⟩) := by
  unfold joined
  refine Eq.trans (concatenate_apply_piece (t := S2x16384x1280) 2 (parts x) _ _ 2 (show 2 < 5 by decide) S2x16384x64 _ rfl rfl 1088 rfl (ix3 b s e) (fun d hd => ?_) ?_) ?_
  · fin_cases d
    · rfl
    · rfl
    · exact absurd rfl hd
  · rfl
  · pointwise
/-- in the first part of the swapped columns, -/
theorem joined_3 (x : FVec Ideal S2x16384x1088 .f32) (b : Fin 2) (s : Fin 16384) (e : Fin 64) :
    joined x (ix3 b s ⟨1152 + e.val, by omega⟩) = x (ix3 b s ⟨1024 + (e.val + 32) % 64, by omega⟩) := by
  unfold joined
  refine Eq.trans (concatenate_apply_piece (t := S2x16384x1280) 2 (parts x) _ _ 3 (show 3 < 5 by decide) S2x16384x64 _ rfl rfl 1152 rfl (ix3 b s e) (fun d hd => ?_) ?_) (swapped_apply x b s e)
  · fin_cases d
    · rfl
    · rfl
    · exact absurd rfl hd
  · rfl
/-- and in the second. -/
theorem joined_4 (x : FVec Ideal S2x16384x1088 .f32) (b : Fin 2) (s : Fin 16384) (e : Fin 64) :
    joined x (ix3 b s ⟨1216 + e.val, by omega⟩) = x (ix3 b s ⟨1024 + (e.val + 32) % 64, by omega⟩) := by
  unfold joined
  refine Eq.trans (concatenate_apply_piece (t := S2x16384x1280) 2 (parts x) _ _ 4 (show 4 < 5 by decide) S2x16384x64 _ rfl rfl 1216 rfl (ix3 b s e) (fun d hd => ?_) ?_) (swapped_apply x b s e)
  · fin_cases d
    · rfl
    · rfl
    · exact absurd rfl hd
  · rfl

/-- The rotary key's 128 columns of the joined array, -/
theorem joined_kr (x : FVec Ideal S2x16384x1088 .f32) (b : Fin 2) (s : Fin 16384) (e : Fin 128) :
    joined x (ix3 b s ⟨1024 + e.val, by omega⟩) = x (ix3 b s ⟨1024 + e.val % 64, by omega⟩) := by
  by_cases h : e.val < 64
  · exact (joined_1 x b s ⟨e.val, h⟩).trans (col_congr x b s (by simp only; omega))
  · exact ((col_congr (joined x) b s (by simp only; omega)).trans (joined_2 x b s ⟨e.val - 64, by omega⟩)).trans (col_congr x b s (by simp only; omega))

/-- and its 128 swapped columns. -/
theorem joined_sw (x : FVec Ideal S2x16384x1088 .f32) (b : Fin 2) (s : Fin 16384) (e : Fin 128) :
    joined x (ix3 b s ⟨1152 + e.val, by omega⟩) = x (ix3 b s ⟨1024 + (e.val + 32) % 64, by omega⟩) := by
  by_cases h : e.val < 64
  · exact joined_3 x b s ⟨e.val, h⟩
  · exact ((col_congr (joined x) b s (by simp only; omega)).trans (joined_4 x b s ⟨e.val - 64, by omega⟩)).trans (col_congr x b s (by simp only; omega))

/-- The normalised query latent of a block, as the body stores it, at an element. -/
theorem pay7_apply (z : FVec Ideal S1x512x1280 .f32) (g : FVec Ideal S1x512 .f32) (r e : Fin 512) :
    k0_pay7 (F := Ideal) z g (ix3 0 r e) = unit (Ideal.ofBits .f32 0x44000000#32) (fun k : Fin 512 => z (ix3 0 r ⟨k.val, by omega⟩)) (fun k => g (ix2 0 k)) e := by
  pointwise [k0_pay7, k0_pay6, unit]
/-- The normalised key latent of a block at an element. -/
theorem pay8_apply (z : FVec Ideal S1x512x1280 .f32) (g : FVec Ideal S1x512 .f32) (r e : Fin 512) :
    k0_pay8 (F := Ideal) z g (ix2 r e) = unit (Ideal.ofBits .f32 0x44000000#32) (fun k : Fin 512 => z (ix3 0 r ⟨512 + k.val, by omega⟩)) (fun k => g (ix2 0 k)) e := by
  pointwise [k0_pay8, k0_pay6, unit]
/-- It as the body stores it, -/
theorem pay1_apply (v : FVec Ideal S512x512 .f32) (r e : Fin 512) : k0_pay1 (F := Ideal) v (ix3 0 r e) = v (ix2 r e) := by
  pointwise [k0_pay1]
/-- and narrowed. -/
theorem pay2_apply (v : FVec Ideal S512x512 .f32) (r e : Fin 512) : k0_pay2 (F := Ideal) v (ix3 0 r e) = v (ix2 r e) := by
  pointwise [k0_pay2]
/-- The turned rotary key of a block as the body stores it, at an element, -/
theorem pay4_apply (z : FVec Ideal S1x512x1280 .f32) (p q : FVec Ideal S1x512x128 .f32) (r : Fin 512) (e : Fin 128) :
    k0_pay4 (F := Ideal) (k0_pay6 z) p q (ix3 0 r e)
      = z (ix3 0 r ⟨1024 + e.val, by omega⟩) * p (ix3 0 r e) + z (ix3 0 r ⟨1152 + e.val, by omega⟩) * q (ix3 0 r e) := by
  pointwise [k0_pay4, k0_pay3, k0_pay6]
/-- and narrowed. -/
theorem pay5_apply (z : FVec Ideal S1x512x1280 .f32) (p q : FVec Ideal S1x512x128 .f32) (r : Fin 512) (e : Fin 128) :
    k0_pay5 (F := Ideal) (k0_pay6 z) p q (ix3 0 r e)
      = z (ix3 0 r ⟨1024 + e.val, by omega⟩) * p (ix3 0 r e) + z (ix3 0 r ⟨1152 + e.val, by omega⟩) * q (ix3 0 r e) := by
  pointwise [k0_pay5, k0_pay3, k0_pay6]

variable (m : (ℓ : Loc nD τ sig) → Buf (Elt Ideal) ℓ) (c : Dev nD)

/-- The joined array, as the call takes it. -/
theorem V_v5 : V m c main_v5 = joined (m ((c : Thread nD τ).loc main_arg0)) := by
  simp only [V, hostOps0]
  open StableHlo in after_results_simp <;> (try dsimp only [Matrix.cons_val]) <;> (try after_results_simp) <;> rfl
/-- The cosine table, as the call takes it. -/
theorem V_v29 : V m c main_v29 = cosT := by
  simp only [V, hostOps0]
  open StableHlo in after_results_simp <;> (try dsimp only [Matrix.cons_val]) <;> (try after_results_simp) <;> rfl
/-- The sine table, as the call takes it. -/
theorem V_v30 : V m c main_v30 = sinT := by
  simp only [V, hostOps0]
  open StableHlo in after_results_simp <;> (try dsimp only [Matrix.cons_val]) <;> (try after_results_simp) <;> rfl
/-- The first scales, as the call takes them. -/
theorem V_gq (e : Fin 512) : V m c main_v31 (ix2 0 e) = m ((c : Thread nD τ).loc main_arg1) (ix1 e) := by
  entry_read
  pointwise
/-- The second scales, as the call takes them. -/
theorem V_gkv (e : Fin 512) : V m c main_v32 (ix2 0 e) = m ((c : Thread nD τ).loc main_arg2) (ix1 e) := by
  entry_read
  pointwise

end Cert.Proof.Latent
end
-- ==== Proof.LatentOut.lean ====
/-
  The latents' call and its reference: the result arrays, the runs, and that they agree over the extended reals.
-/
module

public import proofs.«01_k».proof.Proof.Latent
public import proofs.«01_k».proof.Proof.Gen.Kernel5
public import proofs.«01_k».proof.Proof.Gen.Reference5Ideal.Run

@[expose] public section

set_option maxRecDepth 16384

noncomputable section

namespace Cert.Proof.Latent

open Idealize.ShloMosaic Idealize.ShloMosaic.TcCoe Idealize.SL.Sem
open Cert.Proof.Norm (unit)

section Frames

set_option smartUnfolding false in
/-- The call as printed: it ends, its arguments as they were, every counter at zero. -/
theorem frame_kernel : Cert.quiescent_Kernel5 (hKernel5 := Cert.Kernel5.Gen.facts) := fun m ρ _ =>
  (θ_run (Cert.Kernel5Ideal.defs (F := Bits)) _ _).mono (fun _ h => h) (Cert.Kernel5Ideal.Gen.frame (F := Bits) m ρ)

/-- The ideal call: the same. -/
theorem frame_kernelIdeal : Cert.quiescent_Kernel5Ideal (hKernel5Ideal := Cert.Kernel5Ideal.Gen.facts) := fun m ρ _ =>
  Cert.Kernel5Ideal.Gen.frame (F := Ideal) m ρ

/-- The reference ends with its arguments as they were; it declares no counter, so every counter reads zero. -/
theorem frame_reference : Cert.quiescent_Reference5Ideal (hReference5Ideal := Cert.Reference5Ideal.Gen.facts) := fun m ρ _ =>
  (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m ρ)

end Frames

/-- The 512 columns from `o` on, normalised, as an array. -/
def GU (o : ℕ) (ho : o ≤ 576) (x : FVec Ideal ⟨3, ![2, 16384, 1088]⟩ .f32) (g : FVec Ideal ⟨1, ![512]⟩ .f32) : (⟨3, ![2, 16384, 512]⟩ : Shape).Idx → EReal :=
  fun y => unit (Ideal.ofBits .f32 0x44000000#32) (fun k : Fin 512 => x (ix3 (y 0) (y 1) ⟨o + k.val, by omega⟩)) (fun k => g (ix1 k)) (y 2)

/-- The turned rotary key at a row and lane. -/
def rot (x : FVec Ideal ⟨3, ![2, 16384, 1088]⟩ .f32) (b : Fin 2) (s : Fin 16384) (e : Fin 128) : EReal :=
  if e.val % 64 < 32 then
    x (ix3 b s ⟨1024 + e.val % 64, by omega⟩) * cosA (ix2 s ⟨e.val % 32, by omega⟩) - x (ix3 b s ⟨1024 + (e.val + 32) % 64, by omega⟩) * sinA (ix2 s ⟨e.val % 32, by omega⟩)
  else
    x (ix3 b s ⟨1024 + e.val % 64, by omega⟩) * cosA (ix2 s ⟨e.val % 32, by omega⟩) + x (ix3 b s ⟨1024 + (e.val + 32) % 64, by omega⟩) * sinA (ix2 s ⟨e.val % 32, by omega⟩)

/-- The turned rotary key, twice side by side, as an array. -/
def GR (x : FVec Ideal ⟨3, ![2, 16384, 1088]⟩ .f32) : (⟨3, ![2, 16384, 128]⟩ : Shape).Idx → EReal := fun y => rot x (y 0) (y 1) (y 2)

/-- The turned key from the tables of cosines and signed sines. -/
theorem rot_of_tables (x : FVec Ideal ⟨3, ![2, 16384, 1088]⟩ .f32) (b : Fin 2) (s : Fin 16384) (e : Fin 128) :
    x (ix3 b s ⟨1024 + e.val % 64, by omega⟩) * cosT (ix3 0 s e) + x (ix3 b s ⟨1024 + (e.val + 32) % 64, by omega⟩) * sinT (ix3 0 s e) = rot x b s e := by
  rw [cosT_apply, sinT_apply]
  unfold rot
  by_cases h : e.val % 64 < 32
  · rw [if_pos h, if_pos h, sub_eq_add_neg, mul_neg]
  · rw [if_neg h, if_neg h]

section Kernel
open Cert.Kernel5Ideal Cert.Kernel5Ideal.Gen

variable (m : (ℓ : Loc nD τ sig) → Buf (Elt Ideal) ℓ) (c : Dev nD)

/-- The projection's output, as launched. -/
abbrev zA : FVec Ideal S2x16384x1088 .f32 := m ((c : Thread nD τ).loc main_arg0)
/-- The first scales, as launched. -/
abbrev gqA : FVec Ideal S512 .f32 := m ((c : Thread nD τ).loc main_arg1)
/-- The second scales, as launched. -/
abbrev gkvA : FVec Ideal S512 .f32 := m ((c : Thread nD τ).loc main_arg2)

/-- The block of each window at each grid step. -/
theorem idx : ∀ t : Fin cfg0.N, win0_0.index t = ![t.val / 32, t.val % 32, 0] ∧ win0_1.index t = ![0, t.val % 32, 0] ∧ win0_2.index t = ![0, t.val % 32, 0]
    ∧ win0_3.index t = ![0, 0] ∧ win0_4.index t = ![0, 0]
    ∧ win0_5.index t = ![t.val / 32, t.val % 32, 0] ∧ win0_6.index t = ![t.val / 32, t.val % 32, 0] ∧ win0_7.index t = ![t.val / 32, t.val % 32, 0]
    ∧ win0_8.index t = ![t.val / 32, t.val % 32, 0] ∧ win0_9.index t = ![t.val / 32, t.val % 32, 0] :=
  (by decide +kernel : ∀ t : Fin grid0.N, _)

/-- There are 64 grid steps. -/
theorem lt_N (t : Fin cfg0.N) : t.val < 64 := t.isLt

/-- The batch of a grid point, -/
abbrev bat (t : Fin cfg0.N) : Fin 2 := ⟨t.val / 32, by have := lt_N t; omega⟩
/-- and a row of its row tile. -/
abbrev row (t : Fin cfg0.N) (r : Fin 512) : Fin 16384 := ⟨512 * (t.val % 32) + r.val, by omega⟩

/-- The first window holds a row tile of the joined array, -/
theorem blk_z (t : Fin cfg0.N) (r : Fin 512) (k : Fin 1280) : iblk m c 0 t (ix3 0 r k) = joined (zA m c) (ix3 (bat t) (row t r) k) := by
  have hN := lt_N t
  refine Eq.trans ?_ (congrFun (V_v5 m c) _)
  blk_simp [iblk, idx t]
  blk_ext [idx t]
/-- the second of the cosines, -/
theorem blk_c (t : Fin cfg0.N) (r : Fin 512) (e : Fin 128) : iblk m c 1 t (ix3 0 r e) = cosT (ix3 0 (row t r) e) := by
  refine Eq.trans ?_ (congrFun (V_v29 m c) _)
  blk_simp [iblk, idx t]
  blk_ext [idx t]
/-- the third of the signed sines, -/
theorem blk_s (t : Fin cfg0.N) (r : Fin 512) (e : Fin 128) : iblk m c 2 t (ix3 0 r e) = sinT (ix3 0 (row t r) e) := by
  refine Eq.trans ?_ (congrFun (V_v30 m c) _)
  blk_simp [iblk, idx t]
  blk_ext [idx t]
/-- the fourth the first scales, -/
theorem blk_gq (t : Fin cfg0.N) (e : Fin 512) : iblk m c 3 t (ix2 0 e) = gqA m c (ix1 e) := by
  refine Eq.trans ?_ (V_gq m c e)
  blk_simp [iblk, idx t]
  blk_ext [idx t]
/-- the fifth the second. -/
theorem blk_gkv (t : Fin cfg0.N) (e : Fin 512) : iblk m c 4 t (ix2 0 e) = gkvA m c (ix1 e) := by
  refine Eq.trans ?_ (V_gkv m c e)
  blk_simp [iblk, idx t]
  blk_ext [idx t]

/-- A column of the joined array below 1024. -/
theorem joined_lo (x : FVec Ideal S2x16384x1088 .f32) (b : Fin 2) (s : Fin 16384) (k : Fin 1280) (k' : Fin 1088) (hk : k.val < 1024) (h : k.val = k'.val) :
    joined x (ix3 b s k) = x (ix3 b s k') :=
  ((col_congr (joined x) b s (by simp only; omega)).trans (joined_0 x b s ⟨k.val, hk⟩)).trans (col_congr x b s (by simp only; omega))

/-- What a grid point stores of the query latent, at an element, -/
theorem tile_q (t : Fin cfg0.N) (r e : Fin 512) :
    k0_pay7 (F := Ideal) (iblk m c 0 t) (iblk m c 3 t) (ix3 0 r e) = GU 0 (by decide) (zA m c) (gqA m c) (ix3 (bat t) (row t r) e) := by
  refine (pay7_apply _ _ r e).trans ?_
  simp only [blk_z, blk_gq]
  exact congrArg (fun f => unit _ f _ e) (funext fun k : Fin 512 => joined_lo _ _ _ _ _ (by simp only; omega) (by simp only; omega))
/-- of the key latent, -/
theorem tile_kv (t : Fin cfg0.N) (r e : Fin 512) :
    k0_pay8 (F := Ideal) (iblk m c 0 t) (iblk m c 4 t) (ix2 r e) = GU 512 (by decide) (zA m c) (gkvA m c) (ix3 (bat t) (row t r) e) := by
  refine (pay8_apply _ _ r e).trans ?_
  simp only [blk_z, blk_gkv]
  exact congrArg (fun f => unit _ f _ e) (funext fun k : Fin 512 => joined_lo _ _ _ _ _ (by simp only; omega) (by simp only))
/-- of the turned rotary key, -/
theorem tile_kr (t : Fin cfg0.N) (r : Fin 512) (e : Fin 128) :
    k0_pay4 (F := Ideal) (k0_pay6 (iblk m c 0 t)) (iblk m c 1 t) (iblk m c 2 t) (ix3 0 r e) = GR (zA m c) (ix3 (bat t) (row t r) e) := by
  refine (pay4_apply _ _ _ r e).trans ?_
  rw [blk_z, blk_z, blk_c, blk_s, joined_kr, joined_sw]
  exact rot_of_tables _ _ _ _
/-- and of it narrowed. -/
theorem tile_krN (t : Fin cfg0.N) (r : Fin 512) (e : Fin 128) :
    k0_pay5 (F := Ideal) (k0_pay6 (iblk m c 0 t)) (iblk m c 1 t) (iblk m c 2 t) (ix3 0 r e) = GR (zA m c) (ix3 (bat t) (row t r) e) := by
  refine (pay5_apply _ _ _ r e).trans ?_
  rw [blk_z, blk_z, blk_c, blk_s, joined_kr, joined_sw]
  exact rot_of_tables _ _ _ _

/-- What the body leaves in window 5's buffer at a grid point. -/
theorem out_5 (t : Fin cfg0.N) : out0_5 (iblk m c 0 t) (iblk m c 1 t) (iblk m c 2 t) (iblk m c 3 t) (iblk m c 4 t) = k0_pay7 (iblk m c 0 t) (iblk m c 3 t) := by
  refine (View.canon_cons_unit_lit _ _ _ (by decide)).trans ?_
  exact congrArg₂ k0_pay7 (View.ld_unit_lit _ _ (by decide)) (View.ld_unit_lit _ _ (by decide))

/-- What the body leaves in window 6's buffer at a grid point. -/
theorem out_6 (t : Fin cfg0.N) : out0_6 (iblk m c 0 t) (iblk m c 1 t) (iblk m c 2 t) (iblk m c 3 t) (iblk m c 4 t) = k0_pay1 (k0_pay8 (iblk m c 0 t) (iblk m c 4 t)) := by
  refine (View.canon_cons_unit_lit _ _ _ (by decide)).trans ?_
  exact congrArg k0_pay1 (congrArg₂ k0_pay8 (View.ld_unit_lit _ _ (by decide)) (View.ld_unit_lit _ _ (by decide)))

/-- What the body leaves in window 7's buffer at a grid point. -/
theorem out_7 (t : Fin cfg0.N) : out0_7 (iblk m c 0 t) (iblk m c 1 t) (iblk m c 2 t) (iblk m c 3 t) (iblk m c 4 t) = k0_pay2 (k0_pay8 (iblk m c 0 t) (iblk m c 4 t)) := by
  refine (View.canon_cons_unit_lit _ _ _ (by decide)).trans ?_
  exact congrArg k0_pay2 (congrArg₂ k0_pay8 (View.ld_unit_lit _ _ (by decide)) (View.ld_unit_lit _ _ (by decide)))

/-- What the body leaves in window 8's buffer at a grid point. -/
theorem out_8 (t : Fin cfg0.N) : out0_8 (iblk m c 0 t) (iblk m c 1 t) (iblk m c 2 t) (iblk m c 3 t) (iblk m c 4 t) = k0_pay4 (k0_pay6 (iblk m c 0 t)) (iblk m c 1 t) (iblk m c 2 t) := by
  refine (View.canon_cons_unit_lit _ _ _ (by decide)).trans ?_
  exact congr (congrArg₂ k0_pay4 (congrArg k0_pay6 (View.ld_unit_lit _ _ (by decide))) (View.ld_unit_lit _ _ (by decide))) (View.ld_unit_lit _ _ (by decide))

/-- What the body leaves in window 9's buffer at a grid point. -/
theorem out_9 (t : Fin cfg0.N) : out0_9 (iblk m c 0 t) (iblk m c 1 t) (iblk m c 2 t) (iblk m c 3 t) (iblk m c 4 t) = k0_pay5 (k0_pay6 (iblk m c 0 t)) (iblk m c 1 t) (iblk m c 2 t) := by
  refine (View.canon_cons_unit_lit _ _ _ (by decide)).trans ?_
  exact congr (congrArg₂ k0_pay5 (congrArg k0_pay6 (View.ld_unit_lit _ _ (by decide))) (View.ld_unit_lit _ _ (by decide))) (View.ld_unit_lit _ _ (by decide))

/-- An array at the element of a row tile that a block's element lies on. -/
theorem at_elem {n : ℕ} (G : (⟨3, ![2, 16384, n]⟩ : Shape).Idx → EReal) (t : Fin cfg0.N) (r : Fin 512) (e : Fin n) (z : (⟨3, ![2, 16384, n]⟩ : Shape).Idx)
    (h0 : (z 0).val = t.val / 32) (h1 : (z 1).val = t.val % 32 * 512 + r.val) (h2 : (z 2).val = e.val) : G (ix3 (bat t) (row t r) e) = G z := by
  refine congrArg G (funext fun a => Fin.ext ?_)
  fin_cases a
  · exact h0.symm
  · refine Eq.trans ?_ h1.symm
    show 512 * (t.val % 32) + r.val = _
    omega
  · exact h2.symm

/-- The first result ends holding the normalised query latents, -/
theorem final_5 : (dats m 0 c).arrAt 5 cfg0.N = GU 0 (by decide) (zA m c) (gqA m c) := by
  refine (dats m 0 c).arrAt_eq_of_covers 5 _ (by decide +kernel) fun t hf y => ?_
  have hN := lt_N t
  blk_simp
  rw [after0_5, out_5]
  have y0 : (y 0).val < 1 := (y 0).isLt
  have hy : y = ix3 0 (y 1) (y 2) := by blk_ext []
  have e0 : ((((cfg0.win 5).blk t).view.emb y) 0).val = t.val / 32 + (y 0).val := by blk_simp [idx t]
  have e1 : ((((cfg0.win 5).blk t).view.emb y) 1).val = t.val % 32 * 512 + (y 1).val := by blk_simp [idx t]
  have e2 : ((((cfg0.win 5).blk t).view.emb y) 2).val = (y 2).val := by blk_simp [idx t]
  refine (congrArg _ hy).trans ((tile_q m c t (y 1) (y 2)).trans ?_)
  exact at_elem _ t (y 1) (y 2) _ (e0.trans (by omega)) e1 e2

/-- the second the normalised key latents, -/
theorem final_6 : (dats m 0 c).arrAt 6 cfg0.N = GU 512 (by decide) (zA m c) (gkvA m c) := by
  refine (dats m 0 c).arrAt_eq_of_covers 6 _ (by decide +kernel) fun t hf y => ?_
  have hN := lt_N t
  blk_simp
  rw [after0_6, out_6]
  have y0 : (y 0).val < 1 := (y 0).isLt
  have hy : y = ix3 0 (y 1) (y 2) := by blk_ext []
  have e0 : ((((cfg0.win 6).blk t).view.emb y) 0).val = t.val / 32 + (y 0).val := by blk_simp [idx t]
  have e1 : ((((cfg0.win 6).blk t).view.emb y) 1).val = t.val % 32 * 512 + (y 1).val := by blk_simp [idx t]
  have e2 : ((((cfg0.win 6).blk t).view.emb y) 2).val = (y 2).val := by blk_simp [idx t]
  refine (congrArg _ hy).trans (((pay1_apply _ (y 1) (y 2)).trans (tile_kv m c t (y 1) (y 2))).trans ?_)
  exact at_elem _ t (y 1) (y 2) _ (e0.trans (by omega)) e1 e2

/-- the third the same, -/
theorem final_7 : (dats m 0 c).arrAt 7 cfg0.N = GU 512 (by decide) (zA m c) (gkvA m c) := by
  refine (dats m 0 c).arrAt_eq_of_covers 7 _ (by decide +kernel) fun t hf y => ?_
  have hN := lt_N t
  blk_simp
  rw [after0_7, out_7]
  have y0 : (y 0).val < 1 := (y 0).isLt
  have hy : y = ix3 0 (y 1) (y 2) := by blk_ext []
  have e0 : ((((cfg0.win 7).blk t).view.emb y) 0).val = t.val / 32 + (y 0).val := by blk_simp [idx t]
  have e1 : ((((cfg0.win 7).blk t).view.emb y) 1).val = t.val % 32 * 512 + (y 1).val := by blk_simp [idx t]
  have e2 : ((((cfg0.win 7).blk t).view.emb y) 2).val = (y 2).val := by blk_simp [idx t]
  refine (congrArg _ hy).trans (((pay2_apply _ (y 1) (y 2)).trans (tile_kv m c t (y 1) (y 2))).trans ?_)
  exact at_elem _ t (y 1) (y 2) _ (e0.trans (by omega)) e1 e2

/-- the fourth the turned rotary keys, -/
theorem final_8 : (dats m 0 c).arrAt 8 cfg0.N = GR (zA m c) := by
  refine (dats m 0 c).arrAt_eq_of_covers 8 _ (by decide +kernel) fun t hf y => ?_
  have hN := lt_N t
  blk_simp
  rw [after0_8, out_8]
  have y0 : (y 0).val < 1 := (y 0).isLt
  have hy : y = ix3 0 (y 1) (y 2) := by blk_ext []
  have e0 : ((((cfg0.win 8).blk t).view.emb y) 0).val = t.val / 32 + (y 0).val := by blk_simp [idx t]
  have e1 : ((((cfg0.win 8).blk t).view.emb y) 1).val = t.val % 32 * 512 + (y 1).val := by blk_simp [idx t]
  have e2 : ((((cfg0.win 8).blk t).view.emb y) 2).val = (y 2).val := by blk_simp [idx t]
  refine (congrArg _ hy).trans ((tile_kr m c t (y 1) (y 2)).trans ?_)
  exact at_elem _ t (y 1) (y 2) _ (e0.trans (by omega)) e1 e2

/-- and the fifth the same. -/
theorem final_9 : (dats m 0 c).arrAt 9 cfg0.N = GR (zA m c) := by
  refine (dats m 0 c).arrAt_eq_of_covers 9 _ (by decide +kernel) fun t hf y => ?_
  have hN := lt_N t
  blk_simp
  rw [after0_9, out_9]
  have y0 : (y 0).val < 1 := (y 0).isLt
  have hy : y = ix3 0 (y 1) (y 2) := by blk_ext []
  have e0 : ((((cfg0.win 9).blk t).view.emb y) 0).val = t.val / 32 + (y 0).val := by blk_simp [idx t]
  have e1 : ((((cfg0.win 9).blk t).view.emb y) 1).val = t.val % 32 * 512 + (y 1).val := by blk_simp [idx t]
  have e2 : ((((cfg0.win 9).blk t).view.emb y) 2).val = (y 2).val := by blk_simp [idx t]
  refine (congrArg _ hy).trans ((tile_krN m c t (y 1) (y 2)).trans ?_)
  exact at_elem _ t (y 1) (y 2) _ (e0.trans (by omega)) e1 e2

/-- The ideal call ends with the normalised latents and turned keys, the arguments as they were. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33_0) = GU 0 (by decide) (zA m c) (gqA m c)
      ∧ r.2.mem ((c.tc : Thread nD τ).loc main_v33_1) = GU 512 (by decide) (zA m c) (gkvA m c)
      ∧ r.2.mem ((c.tc : Thread nD τ).loc main_v33_2) = GU 512 (by decide) (zA m c) (gkvA m c)
      ∧ r.2.mem ((c.tc : Thread nD τ).loc main_v33_3) = GR (zA m c)
      ∧ r.2.mem ((c.tc : Thread nD τ).loc main_v33_4) = GR (zA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (final_5 m c), ((h.1 c).1 6).trans (final_6 m c),
      ((h.1 c).1 7).trans (final_7 m c), ((h.1 c).1 8).trans (final_8 m c), ((h.1 c).1 9).trans (final_9 m c), h.2.1 c⟩)
    (θ_run_and (run_main (F := Ideal) m ρ) (frame (F := Ideal) m ρ))

end Kernel

section Reference
open Cert.Reference5Ideal Cert.Reference5Ideal.Gen

/-- The reference's normalisation, as an array of its argument. -/
def nrm (u : FVec Ideal S2x16384x512 .f32) (g : FVec Ideal S512 .f32) : FVec Ideal S2x16384x512 .f32 :=
  mulf (mulf u (broadcastInDim S2x16384x512 ![0, 1, 2] bcast_S2x16384x1_S2x16384x512_0_1_2 (Host.rsqrt (addf (Host.divf (broadcastInDim S2x16384x1 ![0, 1] bcast_S2x16384_S2x16384x1_0_1 (Host.reduceAdd (mulf u u) (constant S_ .f32 0x00000000#32) reducesTo_S2x16384x512_S2x16384_d2 h_S_)) (broadcastInDim S2x16384x1 ![] bcast_S_S2x16384x1 (constant S_ .f32 0x44000000#32))) (broadcastInDim S2x16384x1 ![] bcast_S_S2x16384x1 (constant S_ .f32 0x358637BD#32))))))
    (broadcastInDim S2x16384x512 ![0, 1, 2] bcast_S1x1x512_S2x16384x512_0_1_2 (broadcastInDim S1x1x512 ![2] bcast_S512_S1x1x512_2 g))

/-- It at an element. -/
theorem nrm_apply (u : FVec Ideal S2x16384x512 .f32) (g : FVec Ideal S512 .f32) (b : Fin 2) (s : Fin 16384) (e : Fin 512) :
    nrm u g (ix3 b s e) = unit (Ideal.ofBits .f32 0x44000000#32) (fun k : Fin 512 => u (ix3 b s k)) (fun k => g (ix1 k)) e := by
  pointwise [nrm, unit]

/-- The first 512 columns normalised. -/
theorem ref_q (x : FVec Ideal S2x16384x1088 .f32) (g : FVec Ideal S512 .f32) :
    nrm (extractStridedSlice S2x16384x512 ![0, 0, 0] x slices_S2x16384x1088_S2x16384x512_0_0_0) g = GU 0 (by decide) x g := by
  funext y
  have hy : y = ix3 (y 0) (y 1) (y 2) := by blk_ext []
  refine (congrArg _ hy).trans ((nrm_apply _ g (y 0) (y 1) (y 2)).trans ?_)
  refine congrArg (fun f => unit _ f _ (y 2)) (funext fun k : Fin 512 => ?_)
  refine Eq.trans ?_ (col_congr x (y 0) (y 1) (i := ⟨k.val, by omega⟩) (by simp only; omega))
  pointwise

/-- The next 512 columns normalised. -/
theorem ref_kv (x : FVec Ideal S2x16384x1088 .f32) (g : FVec Ideal S512 .f32) :
    nrm (extractStridedSlice S2x16384x512 ![0, 0, 512] x slices_S2x16384x1088_S2x16384x512_0_0_512) g = GU 512 (by decide) x g := by
  funext y
  have hy : y = ix3 (y 0) (y 1) (y 2) := by blk_ext []
  refine (congrArg _ hy).trans ((nrm_apply _ g (y 0) (y 1) (y 2)).trans ?_)
  refine congrArg (fun f => unit _ f _ (y 2)) (funext fun k : Fin 512 => ?_)
  pointwise

/-- The first half of the rotary key. -/
def x1A (x : FVec Ideal S2x16384x1088 .f32) : FVec Ideal S2x16384x32 .f32 :=
  extractStridedSlice S2x16384x32 ![0, 0, 0] (extractStridedSlice S2x16384x64 ![0, 0, 1024] x slices_S2x16384x1088_S2x16384x64_0_0_1024) slices_S2x16384x64_S2x16384x32_0_0_0
/-- Its second half. -/
def x2A (x : FVec Ideal S2x16384x1088 .f32) : FVec Ideal S2x16384x32 .f32 :=
  extractStridedSlice S2x16384x32 ![0, 0, 32] (extractStridedSlice S2x16384x64 ![0, 0, 1024] x slices_S2x16384x1088_S2x16384x64_0_0_1024) slices_S2x16384x64_S2x16384x32_0_0_32
/-- A table of positions at every batch. -/
def tab (u : FVec Ideal S16384x32 .f32) : FVec Ideal S2x16384x32 .f32 :=
  broadcastInDim S2x16384x32 ![0, 1, 2] bcast_S1x16384x32_S2x16384x32_0_1_2 (broadcastInDim S1x16384x32 ![1, 2] bcast_S16384x32_S1x16384x32_1_2 u)
/-- The first half turned. -/
def y1A (x : FVec Ideal S2x16384x1088 .f32) : FVec Ideal S2x16384x32 .f32 := subf (mulf (x1A x) (tab cosA)) (mulf (x2A x) (tab sinA))
/-- The second half turned. -/
def y2A (x : FVec Ideal S2x16384x1088 .f32) : FVec Ideal S2x16384x32 .f32 := addf (mulf (x2A x) (tab cosA)) (mulf (x1A x) (tab sinA))
/-- The parts of the key. -/
def keys (x : FVec Ideal S2x16384x1088 .f32) : List ((s : Shape) × (s.Idx → EReal)) :=
  [⟨S2x16384x32, y1A x⟩, ⟨S2x16384x32, y2A x⟩, ⟨S2x16384x32, y1A x⟩, ⟨S2x16384x32, y2A x⟩]
/-- The key's array. -/
def keyA (x : FVec Ideal S2x16384x1088 .f32) : FVec Ideal S2x16384x128 .f32 :=
  concatenate S2x16384x128 2 (keys x) concatenates_S2x16384x32_S2x16384x32_S2x16384x32_S2x16384x32_S2x16384x128_d2

/-- The first half turned, at an element. -/
theorem y1A_apply (x : FVec Ideal S2x16384x1088 .f32) (b : Fin 2) (s : Fin 16384) (e : Fin 32) :
    y1A x (ix3 b s e) = x (ix3 b s ⟨1024 + e.val, by omega⟩) * cosA (ix2 s e) - x (ix3 b s ⟨1024 + (32 + e.val), by omega⟩) * sinA (ix2 s e) := by
  pointwise [y1A, x1A, x2A, tab]
/-- The second, at an element. -/
theorem y2A_apply (x : FVec Ideal S2x16384x1088 .f32) (b : Fin 2) (s : Fin 16384) (e : Fin 32) :
    y2A x (ix3 b s e) = x (ix3 b s ⟨1024 + (32 + e.val), by omega⟩) * cosA (ix2 s e) + x (ix3 b s ⟨1024 + e.val, by omega⟩) * sinA (ix2 s e) := by
  pointwise [y2A, x1A, x2A, tab]

/-- The first half turned is the turned key at a lane of a first half, -/
theorem y1A_rot (x : FVec Ideal S2x16384x1088 .f32) (b : Fin 2) (s : Fin 16384) (e : Fin 32) (l : Fin 128) (h : l.val % 64 = e.val) :
    y1A x (ix3 b s e) = rot x b s l := by
  refine (y1A_apply x b s e).trans ?_
  unfold rot
  rw [if_pos (by omega), show e = ⟨l.val % 32, by omega⟩ from Fin.ext (by simp only; omega)]
  exact congrArg₂ (fun p q => p * _ - q * _) (col_congr x b s (by simp only; omega)) (col_congr x b s (by simp only; omega))
/-- and the second at a lane of a second. -/
theorem y2A_rot (x : FVec Ideal S2x16384x1088 .f32) (b : Fin 2) (s : Fin 16384) (e : Fin 32) (l : Fin 128) (h : l.val % 64 = 32 + e.val) :
    y2A x (ix3 b s e) = rot x b s l := by
  refine (y2A_apply x b s e).trans ?_
  unfold rot
  rw [if_neg (by omega), show e = ⟨l.val % 32, by omega⟩ from Fin.ext (by simp only; omega)]
  exact congrArg₂ (fun p q => p * _ + q * _) (col_congr x b s (by simp only; omega)) (col_congr x b s (by simp only; omega))

/-- The key's first 32 lanes, -/
theorem keyA_0 (x : FVec Ideal S2x16384x1088 .f32) (b : Fin 2) (s : Fin 16384) (e : Fin 32) (l : Fin 128) (h : l.val = 0 + e.val) : keyA x (ix3 b s l) = rot x b s l := by
  unfold keyA
  refine Eq.trans (concatenate_apply_piece (t := S2x16384x128) 2 (keys x) _ _ 0 (show 0 < 4 by decide) S2x16384x32 _ rfl rfl 0 rfl (ix3 b s e) (fun d hd => ?_) ?_) (y1A_rot x b s e l (by omega))
  · fin_cases d
    · rfl
    · rfl
    · exact absurd rfl hd
  · exact h.symm
/-- its next, -/
theorem keyA_1 (x : FVec Ideal S2x16384x1088 .f32) (b : Fin 2) (s : Fin 16384) (e : Fin 32) (l : Fin 128) (h : l.val = 32 + e.val) : keyA x (ix3 b s l) = rot x b s l := by
  unfold keyA
  refine Eq.trans (concatenate_apply_piece (t := S2x16384x128) 2 (keys x) _ _ 1 (show 1 < 4 by decide) S2x16384x32 _ rfl rfl 32 rfl (ix3 b s e) (fun d hd => ?_) ?_) (y2A_rot x b s e l (by omega))
  · fin_cases d
    · rfl
    · rfl
    · exact absurd rfl hd
  · exact h.symm
/-- its next, -/
theorem keyA_2 (x : FVec Ideal S2x16384x1088 .f32) (b : Fin 2) (s : Fin 16384) (e : Fin 32) (l : Fin 128) (h : l.val = 64 + e.val) : keyA x (ix3 b s l) = rot x b s l := by
  unfold keyA
  refine Eq.trans (concatenate_apply_piece (t := S2x16384x128) 2 (keys x) _ _ 2 (show 2 < 4 by decide) S2x16384x32 _ rfl rfl 64 rfl (ix3 b s e) (fun d hd => ?_) ?_) (y1A_rot x b s e l (by omega))
  · fin_cases d
    · rfl
    · rfl
    · exact absurd rfl hd
  · exact h.symm
/-- and its last. -/
theorem keyA_3 (x : FVec Ideal S2x16384x1088 .f32) (b : Fin 2) (s : Fin 16384) (e : Fin 32) (l : Fin 128) (h : l.val = 96 + e.val) : keyA x (ix3 b s l) = rot x b s l := by
  unfold keyA
  refine Eq.trans (concatenate_apply_piece (t := S2x16384x128) 2 (keys x) _ _ 3 (show 3 < 4 by decide) S2x16384x32 _ rfl rfl 96 rfl (ix3 b s e) (fun d hd => ?_) ?_) (y2A_rot x b s e l (by omega))
  · fin_cases d
    · rfl
    · rfl
    · exact absurd rfl hd
  · exact h.symm

/-- The reference's key is the turned key. -/
theorem ref_kr (x : FVec Ideal S2x16384x1088 .f32) : keyA x = GR x := by
  funext y
  have hy : y = ix3 (y 0) (y 1) (y 2) := by blk_ext []
  refine (congrArg _ hy).trans ?_
  have hl : (y 2).val < 128 := (y 2).isLt
  by_cases h0 : (y 2).val < 32
  · exact keyA_0 x (y 0) (y 1) ⟨(y 2).val, h0⟩ (y 2) (by simp only; omega)
  by_cases h1 : (y 2).val < 64
  · exact keyA_1 x (y 0) (y 1) ⟨(y 2).val - 32, by omega⟩ (y 2) (by simp only; omega)
  by_cases h2 : (y 2).val < 96
  · exact keyA_2 x (y 0) (y 1) ⟨(y 2).val - 64, by omega⟩ (y 2) (by simp only; omega)
  · exact keyA_3 x (y 0) (y 1) ⟨(y 2).val - 96, by omega⟩ (y 2) (by simp only; omega)

/-- The reference's fourth result is that key, -/
theorem res3_eq (m : (ℓ : Loc nD τ sig) → Buf (Elt Ideal) ℓ) (c : Dev nD) : Value.res_out3 m c = keyA (m ((c : Thread nD τ).loc main_arg0)) := by
  unfold Value.res_out3 Value.res_main_v60; rfl
/-- and so is its fifth. -/
theorem res4_eq (m : (ℓ : Loc nD τ sig) → Buf (Elt Ideal) ℓ) (c : Dev nD) : Value.res_out4 m c = keyA (m ((c : Thread nD τ).loc main_arg0)) := by
  unfold Value.res_out4 Value.res_main_v63; rfl

end Reference

/-- The ideal call and the reference, from equal arguments, end with equal results. -/
theorem algebraic : Cert.algebraic_Kernel5Ideal_Reference5Ideal (hKernel5Ideal := Cert.Kernel5Ideal.Gen.facts)
    (hReference5Ideal := Cert.Reference5Ideal.Gen.facts) := fun m g m' g' _ hagree =>
  ⟨fun c => GU 0 (by decide) (zA m c) (gqA m c), fun c => GU 512 (by decide) (zA m c) (gkvA m c), fun c => GU 512 (by decide) (zA m c) (gkvA m c),
    fun c => GR (zA m c), fun c => GR (zA m c), run_value m g,
    (θ_run Cert.Reference5Ideal.defs _ _).mono (fun _ h c => by
        obtain ⟨h0, h1, h2⟩ := hagree c
        obtain ⟨r0, r1, r2, r3, r4, ra⟩ := h c
        rw [h0, h1] at r0
        rw [h0, h2] at r1 r2
        replace r3 := r3.trans ((res3_eq m' c).trans (congrArg keyA h0))
        replace r4 := r4.trans ((res4_eq m' c).trans (congrArg keyA h0))
        exact ⟨r0.trans (ref_q _ _), r1.trans (ref_kv _ _), r2.trans (ref_kv _ _), r3.trans (ref_kr _), r4.trans (ref_kr _), ra⟩)
      (Cert.Reference5Ideal.Value.run (F := Ideal) m' g')⟩

end Cert.Proof.Latent
end
-- ==== Proof.lean ====
/-
  The claims about five calls (attention, input projection, forget gate, last norm, latents): what each program does to its arguments and counters,
  that each ideal kernel is the printed one, and that over the extended reals it computes what its reference does.
-/
module

public import proofs.«01_k».proof.Defs
public import proofs.«01_k».proof.Proof.KernelFrame
public import proofs.«01_k».proof.Proof.RefFrame
public import proofs.«01_k».proof.Proof.Equal
public import proofs.«01_k».proof.Proof.Gen.ReferenceIdeal.Run
public import proofs.«01_k».proof.Proof.EvenFrame
public import proofs.«01_k».proof.Proof.EvenEqual
public import proofs.«01_k».proof.Proof.Gate
public import proofs.«01_k».proof.Proof.Norm
public import proofs.«01_k».proof.Proof.LatentOut
public import proofs.«01_k».proof.Proof.Gen.Kernel3
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run

@[expose] public section

noncomputable section

/-- All the claims. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Proof.Flash.frame_kernel, Cert.Proof.Flash.frame_kernelIdeal, Cert.Proof.Flash.frame_reference,
    Cert.Proof.Even.frame_kernel, Cert.Proof.Even.frame_kernelIdeal, Cert.Proof.Even.frame_reference,
    Cert.Proof.Gate.frame_kernel, Cert.Proof.Gate.frame_kernelIdeal, Cert.Proof.Gate.frame_reference,
    Cert.Proof.Norm.frame_kernel, Cert.Proof.Norm.frame_kernelIdeal, Cert.Proof.Norm.frame_reference,
    Cert.Proof.Latent.frame_kernel, Cert.Proof.Latent.frame_kernelIdeal, Cert.Proof.Latent.frame_reference,
    Cert.Proof.Flash.preserves, Cert.Proof.Flash.algebraic, trivial, Cert.Proof.Even.algebraic,
    trivial, Cert.Proof.Gate.algebraic, trivial, Cert.Proof.Norm.algebraic, trivial, Cert.Proof.Latent.algebraic⟩

end
